-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_finite_maximum [hPre_rows_have_a_finite_maximum : Cert.Pre_rows_have_a_finite_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_finite_maximum.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_finite_maximum [hPre_rows_have_a_finite_maximum : Cert.Pre_rows_have_a_finite_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_finite_maximum.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_a_finite_maximum [hKernelIdeal : Cert.KernelIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_finite_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_a_finite_maximum [hReferenceIdeal : Cert.ReferenceIdeal.Facts] [hPre_rows_have_a_finite_maximum : Cert.Pre_rows_have_a_finite_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_finite_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_have_a_finite_maximum [hKernelIdeal : Cert.KernelIdeal.Facts] [hReferenceIdeal : Cert.ReferenceIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_finite_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_a_finite_maximum : Cert.Pre_rows_have_a_finite_maximum.Facts),
    quiescent_Kernel (hKernel := hKernel)
    ∧ quiescent_KernelIdeal (hKernelIdeal := hKernelIdeal)
    ∧ quiescent_KernelIdeal_pre_rows_have_a_finite_maximum (hKernelIdeal := hKernelIdeal) (hPre_rows_have_a_finite_maximum := hPre_rows_have_a_finite_maximum)
    ∧ quiescent_ReferenceIdeal (hReferenceIdeal := hReferenceIdeal)
    ∧ quiescent_ReferenceIdeal_pre_rows_have_a_finite_maximum (hReferenceIdeal := hReferenceIdeal) (hPre_rows_have_a_finite_maximum := hPre_rows_have_a_finite_maximum)
    ∧ preserves_Kernel_KernelIdeal
    ∧ algebraic_KernelIdeal_ReferenceIdeal_pre_rows_have_a_finite_maximum (hKernelIdeal := hKernelIdeal) (hReferenceIdeal := hReferenceIdeal) (hPre_rows_have_a_finite_maximum := hPre_rows_have_a_finite_maximum)
-- ==== Pre_rows_have_a_finite_maximum.lean ====
abbrev S4096x8 : Shape := ⟨2, ![4096, 8]⟩
abbrev S_ : Shape := ⟨0, ![]⟩
abbrev S4096 : Shape := ⟨1, ![4096]⟩

class Facts : Prop where
  reducesTo_S4096x8_S4096_d1 : S4096x8.ReducesTo [1] S4096
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8 .f32) : IVec S_ 1 :=
  let main_cst : FVec F S_ .f32 := constant S_ .f32 0xFF800000#32
  let main_v0 : FVec F S4096 .f32 := (fun x v => Host.reduce FloatOps.maximumf x v reducesTo_S4096x8_S4096_d1 h_S_) main_arg0 main_cst
  let main_v1 : FVec F S4096 .f32 := Host.absf main_v0
  let main_cst_0 : FVec F S_ .f32 := constant S_ .f32 0x7F800000#32
  let main_v2 : FVec F S4096 .f32 := broadcastInDim S4096 ![] bcast_S_S4096 main_cst_0
  let main_v3 : IVec S4096 1 := cmpf .olt main_v1 main_v2
  let main_c : IVec S_ 1 := constantI S_ 1 1#1
  let main_v4 : IVec S_ 1 := (fun x v => Host.reduce IntOp.andi x v reducesTo_S4096_S_d0 h_S_) main_v3 main_c
  main_v4
-- ==== Kernel.lean ====
abbrev S4096x8 : Shape := ⟨2, ![4096, 8]⟩
abbrev S4096x40 : Shape := ⟨2, ![4096, 40]⟩
abbrev S4096 : Shape := ⟨1, ![4096]⟩
abbrev S4096x1 : Shape := ⟨2, ![4096, 1]⟩
abbrev S4096x16 : Shape := ⟨2, ![4096, 16]⟩
abbrev S1x16 : Shape := ⟨2, ![1, 16]⟩
abbrev S4095x16 : Shape := ⟨2, ![4095, 16]⟩
abbrev S2x16 : Shape := ⟨2, ![2, 16]⟩
abbrev S4094x16 : Shape := ⟨2, ![4094, 16]⟩
abbrev S4x16 : Shape := ⟨2, ![4, 16]⟩
abbrev S4092x16 : Shape := ⟨2, ![4092, 16]⟩
abbrev S8x16 : Shape := ⟨2, ![8, 16]⟩
abbrev S4088x16 : Shape := ⟨2, ![4088, 16]⟩
abbrev S16x16 : Shape := ⟨2, ![16, 16]⟩
abbrev S4080x16 : Shape := ⟨2, ![4080, 16]⟩
abbrev S32x16 : Shape := ⟨2, ![32, 16]⟩
abbrev S4064x16 : Shape := ⟨2, ![4064, 16]⟩
abbrev S64x16 : Shape := ⟨2, ![64, 16]⟩
abbrev S4032x16 : Shape := ⟨2, ![4032, 16]⟩
abbrev S128x16 : Shape := ⟨2, ![128, 16]⟩
abbrev S3968x16 : Shape := ⟨2, ![3968, 16]⟩
abbrev S256x16 : Shape := ⟨2, ![256, 16]⟩
abbrev S3840x16 : Shape := ⟨2, ![3840, 16]⟩
abbrev S512x16 : Shape := ⟨2, ![512, 16]⟩
abbrev S3584x16 : Shape := ⟨2, ![3584, 16]⟩
abbrev S1024x16 : Shape := ⟨2, ![1024, 16]⟩
abbrev S3072x16 : Shape := ⟨2, ![3072, 16]⟩
abbrev S2048x16 : Shape := ⟨2, ![2048, 16]⟩
abbrev S1x8 : Shape := ⟨2, ![1, 8]⟩
abbrev S32768x1024 : Shape := ⟨2, ![32768, 1024]⟩
abbrev S256x40 : Shape := ⟨2, ![256, 40]⟩
abbrev S2048x1024 : Shape := ⟨2, ![2048, 1024]⟩
abbrev S2048x256 : Shape := ⟨2, ![2048, 256]⟩
abbrev S2048x40 : Shape := ⟨2, ![2048, 40]⟩
abbrev S40x5 : Shape := ⟨2, ![40, 5]⟩
abbrev S2048x5 : Shape := ⟨2, ![2048, 5]⟩
abbrev S2048x1 : Shape := ⟨2, ![2048, 1]⟩
abbrev S_ : Shape := ⟨0, ![]⟩
abbrev S1024 : Shape := ⟨1, ![1024]⟩
abbrev S4096x8x1 : Shape := ⟨3, ![4096, 8, 1]⟩
abbrev S1x1x1024 : Shape := ⟨3, ![1, 1, 1024]⟩
abbrev S4096x8x1024 : Shape := ⟨3, ![4096, 8, 1024]⟩

abbrev nBuf : Space → Nat
  | .hbm => 29
  | .vmem => 6
  | .smem => 0
  | _ => 0

abbrev bufTy : (tb : Table) → Fin (tcTables nBuf tb) → BufTy
  | .hbm, ⟨0, _⟩ => ⟨S4096x8, .f32⟩
  | .hbm, ⟨1, _⟩ => ⟨S4096x40, .f32⟩
  | .hbm, ⟨2, _⟩ => ⟨S32768x1024, .f32⟩
  | .hbm, ⟨3, _⟩ => ⟨S4096x8, .f32⟩
  | .hbm, ⟨4, _⟩ => ⟨S_, .f32⟩
  | .hbm, ⟨5, _⟩ => ⟨S4096x8, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S4096x8, .i32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S_, .f32⟩
  | .hbm, ⟨16, _⟩ => ⟨S4096x8, .f32⟩
  | .hbm, ⟨17, _⟩ => ⟨S4096x8, .i1⟩
  | .hbm, ⟨18, _⟩ => ⟨S_, .i32⟩
  | .hbm, ⟨19, _⟩ => ⟨S_, .i32⟩
  | .hbm, ⟨20, _⟩ => ⟨S4096x8, .i32⟩
  | .hbm, ⟨21, _⟩ => ⟨S4096x8, .i32⟩
  | .hbm, ⟨22, _⟩ => ⟨S1024, .i32⟩
  | .hbm, ⟨23, _⟩ => ⟨S4096x8x1, .i32⟩
  | .hbm, ⟨24, _⟩ => ⟨S1x1x1024, .i32⟩
  | .hbm, ⟨25, _⟩ => ⟨S4096x8x1024, .i32⟩
  | .hbm, ⟨26, _⟩ => ⟨S4096x8x1024, .i32⟩
  | .hbm, ⟨27, _⟩ => ⟨S4096x8x1024, .i1⟩
  | .hbm, ⟨28, _⟩ => ⟨S4096x8x1024, .f32⟩
  | .local _ .vmem, ⟨0, _⟩ => ⟨S4096x8, .f32⟩
  | .local _ .vmem, ⟨1, _⟩ => ⟨S4096x40, .f32⟩
  | .local _ .vmem, ⟨2, _⟩ => ⟨S256x40, .f32⟩
  | .local _ .vmem, ⟨3, _⟩ => ⟨S256x40, .f32⟩
  | .local _ .vmem, ⟨4, _⟩ => ⟨S2048x1024, .f32⟩
  | .local _ .vmem, ⟨5, _⟩ => ⟨S2048x1024, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := .none

abbrev stage0_0 : Fin 1 → Memref sig .tc .vmem S4096x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S8 : Shape := ⟨1, ![8]⟩
abbrev S1x1024 : Shape := ⟨2, ![1, 1024]⟩
abbrev S4096x1024 : Shape := ⟨2, ![4096, 1024]⟩
abbrev S4096x8x1 : Shape := ⟨3, ![4096, 8, 1]⟩
abbrev S4096x1x1024 : Shape := ⟨3, ![4096, 1, 1024]⟩
abbrev S4096x8x1024 : Shape := ⟨3, ![4096, 8, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S_, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096x1, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x8, .f32⟩
  | .hbm, ⟨14, _⟩ => ⟨S4096x8, .f32⟩
  | .hbm, ⟨15, _⟩ => ⟨S4096x8, .i32⟩
  | .hbm, ⟨16, _⟩ => ⟨S_, .f32⟩
  | .hbm, ⟨17, _⟩ => ⟨S_, .i32⟩
  | .hbm, ⟨18, _⟩ => ⟨S4096, .f32⟩
  | .hbm, ⟨19, _⟩ => ⟨S4096, .i32⟩
  | .hbm, ⟨20, _⟩ => ⟨S4096x1, .i32⟩
  | .hbm, ⟨21, _⟩ => ⟨S1x8, .i32⟩
  | .hbm, ⟨22, _⟩ => ⟨S4096x8, .i32⟩
  | .hbm, ⟨23, _⟩ => ⟨S4096x8, .i32⟩
  | .hbm, ⟨24, _⟩ => ⟨S4096x8, .i1⟩
  | .hbm, ⟨25, _⟩ => ⟨S4096x8, .i32⟩
  | .hbm, ⟨26, _⟩ => ⟨S_, .i32⟩
  | .hbm, ⟨27, _⟩ => ⟨S4096x8, .i32⟩
  | .hbm, ⟨28, _⟩ => ⟨S4096x8, .i1⟩
  | .hbm, ⟨29, _⟩ => ⟨S4096x8, .i1⟩
  | .hbm, ⟨30, _⟩ => ⟨S_, .f32⟩
  | .hbm, ⟨31, _⟩ => ⟨S_, .f32⟩
  | .hbm, ⟨32, _⟩ => ⟨S4096x8, .f32⟩
  | .hbm, ⟨33, _⟩ => ⟨S4096x8, .f32⟩
  | .hbm, ⟨34, _⟩ => ⟨S4096x8, .i32⟩
  | .hbm, ⟨35, _⟩ => ⟨S_, .f32⟩
  | .hbm, ⟨36, _⟩ => ⟨S_, .i32⟩
  | .hbm, ⟨37, _⟩ => ⟨S4096, .f32⟩
  | .hbm, ⟨38, _⟩ => ⟨S4096, .i32⟩
  | .hbm, ⟨39, _⟩ => ⟨S4096x1, .i32⟩
  | .hbm, ⟨40, _⟩ => ⟨S1x8, .i32⟩
  | .hbm, ⟨41, _⟩ => ⟨S4096x8, .i32⟩
  | .hbm, ⟨42, _⟩ => ⟨S4096x8, .i32⟩
  | .hbm, ⟨43, _⟩ => ⟨S4096x8, .i1⟩
  | .hbm, ⟨44, _⟩ => ⟨S4096x8, .i32⟩
  | .hbm, ⟨45, _⟩ => ⟨S_, .i32⟩
  | .hbm, ⟨46, _⟩ => ⟨S_, .i32⟩
  | .hbm, ⟨47, _⟩ => ⟨S4096x8, .i32⟩
  | .hbm, ⟨48, _⟩ => ⟨S_, .i32⟩
  | .hbm, ⟨49, _⟩ => ⟨S4096x8, .i32⟩
  | .hbm, ⟨50, _⟩ => ⟨S4096x8, .i32⟩
  | .hbm, ⟨51, _⟩ => ⟨S_, .i32⟩
  | .hbm, ⟨52, _⟩ => ⟨S_, .i32⟩
  | .hbm, ⟨53, _⟩ => ⟨S4096x8, .i32⟩
  | .hbm, ⟨54, _⟩ => ⟨S_, .i32⟩
  | .hbm, ⟨55, _⟩ => ⟨S4096x8, .i32⟩
  | .hbm, ⟨56, _⟩ => ⟨S4096x8, .i32⟩
  | .hbm, ⟨57, _⟩ => ⟨S_, .i32⟩
  | .hbm, ⟨58, _⟩ => ⟨S8, .i32⟩
  | .hbm, ⟨59, _⟩ => ⟨S1x8, .i32⟩
  | .hbm, ⟨60, _⟩ => ⟨S4096x8, .i32⟩
  | .hbm, ⟨61, _⟩ => ⟨S4096x8, .i32⟩
  | .hbm, ⟨62, _⟩ => ⟨S_, .i32⟩
  | .hbm, ⟨63, _⟩ => ⟨S4096x8, .i32⟩
  | .hbm, ⟨64, _⟩ => ⟨S4096x8, .i1⟩
  | .hbm, ⟨65, _⟩ => ⟨S4096x8, .i32⟩
  | .hbm, ⟨66, _⟩ => ⟨S4096x8, .i32⟩
  | .hbm, ⟨67, _⟩ => ⟨S_, .i32⟩
  | .hbm, ⟨68, _⟩ => ⟨S4096x8, .i32⟩
  | .hbm, ⟨69, _⟩ => ⟨S4096x8, .i1⟩
  | .hbm, ⟨70, _⟩ => ⟨S4096x8, .i32⟩
  | .hbm, ⟨71, _⟩ => ⟨S4096x8, .i32⟩
  | .hbm, ⟨72, _⟩ => ⟨S4096x8, .i32⟩
  | .hbm, ⟨73, _⟩ => ⟨S_, .i32⟩
  | .hbm, ⟨74, _⟩ => ⟨S4096, .i32⟩
  | .hbm, ⟨75, _⟩ => ⟨S4096x8, .i32⟩
  | .hbm, ⟨76, _⟩ => ⟨S_, .i32⟩
  | .hbm, ⟨77, _⟩ => ⟨S4096, .i32⟩
  | .hbm, ⟨78, _⟩ => ⟨S4096x8, .f32⟩
  | .hbm, ⟨79, _⟩ => ⟨S4096x8, .f32⟩
  | .hbm, ⟨80, _⟩ => ⟨S4096x8, .f32⟩
  | .hbm, ⟨81, _⟩ => ⟨S4096x8, .f32⟩
  | .hbm, ⟨82, _⟩ => ⟨S4096x1, .i32⟩
  | .hbm, ⟨83, _⟩ => ⟨S1x1024, .i32⟩
  | .hbm, ⟨84, _⟩ => ⟨S4096x1024, .i32⟩
  | .hbm, ⟨85, _⟩ => ⟨S4096x1024, .i32⟩
  | .hbm, ⟨86, _⟩ => ⟨S4096x1024, .i1⟩
  | .hbm, ⟨87, _⟩ => ⟨S4096x1024, .f32⟩
  | .hbm, ⟨88, _⟩ => ⟨S4096x1, .i32⟩
  | .hbm, ⟨89, _⟩ => ⟨S1x1024, .i32⟩
  | .hbm, ⟨90, _⟩ => ⟨S4096x1024, .i32⟩
  | .hbm, ⟨91, _⟩ => ⟨S4096x1024, .i32⟩
  | .hbm, ⟨92, _⟩ => ⟨S4096x1024, .i1⟩
  | .hbm, ⟨93, _⟩ => ⟨S4096x1024, .f32⟩
  | .hbm, ⟨94, _⟩ => ⟨S4096x8x1, .f32⟩
  | .hbm, ⟨95, _⟩ => ⟨S4096x1x1024, .f32⟩
  | .hbm, ⟨96, _⟩ => ⟨S4096x8x1024, .f32⟩
  | .hbm, ⟨97, _⟩ => ⟨S4096x8x1024, .f32⟩
  | .hbm, ⟨98, _⟩ => ⟨S4096x8x1024, .f32⟩
  | .hbm, ⟨99, _⟩ => ⟨S4096x8x1, .f32⟩
  | .hbm, ⟨100, _⟩ => ⟨S4096x1x1024, .f32⟩
  | .hbm, ⟨101, _⟩ => ⟨S4096x8x1024, .f32⟩
  | .hbm, ⟨102, _⟩ => ⟨S4096x8x1024, .f32⟩
  | .hbm, ⟨103, _⟩ => ⟨S4096x8x1024, .f32⟩
  | .hbm, ⟨104, _⟩ => ⟨S4096x8x1024, .f32⟩
  | .hbm, ⟨105, _⟩ => ⟨S_, .f32⟩
  | .hbm, ⟨106, _⟩ => ⟨S4096x8x1024, .f32⟩
  | .hbm, ⟨107, _⟩ => ⟨S4096x8x1024, .i1⟩
  | .hbm, ⟨108, _⟩ => ⟨S4096x8x1024, .i1⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v11 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call2_v0 : Ref sig .tc := ⟨.hbm, 31, rfl⟩
abbrev main_call2_v1 : Ref sig .tc := ⟨.hbm, 32, rfl⟩
abbrev main_v16 : Ref sig .tc := ⟨.hbm, 33, rfl⟩
abbrev main_call3_v0 : Ref sig .tc := ⟨.hbm, 34, rfl⟩
abbrev main_call3_cst : Ref sig .tc := ⟨.hbm, 35, rfl⟩
abbrev main_call3_c : Ref sig .tc := ⟨.hbm, 36, rfl⟩
abbrev main_call3_v1_0 : Ref sig .tc := ⟨.hbm, 37, rfl⟩
abbrev main_v17 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_v18 : Ref sig .tc := ⟨.hbm, 44, rfl⟩
abbrev main_call5_call0_c : Ref sig .tc := ⟨.hbm, 45, rfl⟩
abbrev main_call5_call0_v0 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_call6_call0_c : Ref sig .tc := ⟨.hbm, 51, rfl⟩
abbrev main_call6_call0_v0 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_8 : Ref sig .tc := ⟨.hbm, 73, rfl⟩
abbrev main_v38 : Ref sig .tc := ⟨.hbm, 74, rfl⟩
abbrev main_v39 : Ref sig .tc := ⟨.hbm, 75, rfl⟩
abbrev main_c_9 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_call7_v0 : Ref sig .tc := ⟨.hbm, 82, rfl⟩
abbrev main_call7_v1 : Ref sig .tc := ⟨.hbm, 83, rfl⟩
abbrev main_call7_v2 : Ref sig .tc := ⟨.hbm, 84, rfl⟩
abbrev main_call7_v3 : Ref sig .tc := ⟨.hbm, 85, rfl⟩
abbrev main_call7_v4 : Ref sig .tc := ⟨.hbm, 86, rfl⟩
abbrev main_v45 : Ref sig .tc := ⟨.hbm, 87, rfl⟩
abbrev main_call8_v0 : Ref sig .tc := ⟨.hbm, 88, rfl⟩
abbrev main_call8_v1 : Ref sig .tc := ⟨.hbm, 89, rfl⟩
abbrev main_call8_v2 : Ref sig .tc := ⟨.hbm, 90, rfl⟩
abbrev main_call8_v3 : Ref sig .tc := ⟨.hbm, 91, rfl⟩
abbrev main_call8_v4 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩

abbrev nD : Nat := 1
abbrev τ : Topo := Topo.v7x

variable {F : FTy → Type} [FloatOps F]
-- ==== Proof.RefVal.lean ====
/-
  The reference's two results as functions of the logits, one definition per step of its text.
-/
module

public import proofs.«01_k».proof.ReferenceIdeal
public import proofs.«01_k».proof.Proof.Gen.ReferenceIdeal
public import Idealize.ShloMosaic.PureOps.Ideal

@[expose] public section

noncomputable section

namespace Cert.Proof.Ref

open Idealize.ShloMosaic Cert.ReferenceIdeal Cert.ReferenceIdeal.Gen

/-- Each row's largest logit. -/
def rowMax (x : FVec Ideal S4096x8 .f32) : FVec Ideal S4096 .f32 :=
  maximumf (broadcastInDim S4096 ![] bcast_S_S4096 (constant S_ .f32 0xFF800000#32))
    (Host.reduce FloatOps.maximumf x (constant S_ .f32 0xFF800000#32) reducesTo_S4096x8_S4096_d1 h_S_)

/-- The exponentials of the logits less their row's largest. -/
def expo (x : FVec Ideal S4096x8 .f32) : FVec Ideal S4096x8 .f32 :=
  Host.exp (subf x (broadcastInDim S4096x8 ![0, 1] bcast_S4096x1_S4096x8_0_1
    (broadcastInDim S4096x1 ![0] bcast_S4096_S4096x1_0 (rowMax x))))

/-- The softmax of each row. -/
def probs (x : FVec Ideal S4096x8 .f32) : FVec Ideal S4096x8 .f32 :=
  Host.divf (expo x) (broadcastInDim S4096x8 ![0, 1] bcast_S4096x1_S4096x8_0_1
    (broadcastInDim S4096x1 ![0] bcast_S4096_S4096x1_0
      (Host.reduceAdd (expo x) (constant S_ .f32 0x00000000#32) reducesTo_S4096x8_S4096_d1 h_S_)))

/-- The index of each row's first largest entry. -/
def top (p : FVec Ideal S4096x8 .f32) : IVec S4096 32 := fun j =>
  (Host.argReduce reducer_argmax_f32_i32 p (iotaInDim S4096x8 32 1) (constant S_ .f32 0xFF800000#32)
    (constantI S_ 32 0#32) reducesTo_S4096x8_S4096_d1 h_S_ j).2

/-- One in the column an index names, zero elsewhere, over the eight experts. -/
def hot (a : IVec S4096 32) : IVec S4096x8 32 :=
  extui 32 (cmpi .eq
    (broadcastInDim S4096x8 ![0, 1] bcast_S4096x1_S4096x8_0_1 (broadcastInDim S4096x1 ![0] bcast_S4096_S4096x1_0 a))
    (broadcastInDim S4096x8 ![0, 1] bcast_S1x8_S4096x8_0_1 (iotaInDim S1x8 32 1))) natLt_1_32

/-- The probabilities with the entries a mask marks sent to minus infinity. -/
def without (k : IVec S4096x8 32) (p : FVec Ideal S4096x8 .f32) : FVec Ideal S4096x8 .f32 :=
  select (id (cmpi .ne k (broadcastInDim S4096x8 ![] bcast_S_S4096x8 (constantI S_ 32 0#32))))
    (broadcastInDim S4096x8 ![] bcast_S_S4096x8 (id (constant S_ .f32 0xFF800000#32))) p

/-- The running column sums of a mask. -/
def running (k : IVec S4096x8 32) : IVec S4096x8 32 :=
  Host.reduceWindow IntOp.addi ![4096, 1] ![1, 1] ![4095, 0] ![0, 0] k
    (broadcastInDim S_ ![] bcast_S_S_ (constantI S_ 32 0#32))
    reduceWindows_S4096x8_S4096x8_w4096s1p4095_0_w1s1p0_0 h_S_

/-- The running column sums less one. -/
def place (k : IVec S4096x8 32) : IVec S4096x8 32 :=
  subi (running k) (broadcastInDim S4096x8 ![] bcast_S_S4096x8 (constantI S_ 32 1#32))

/-- A mask's running column sums less one, counted on from another mask's column totals. -/
def placeAfter (k l : IVec S4096x8 32) : IVec S4096x8 32 :=
  addi (place l) (broadcastInDim S4096x8 ![0, 1] bcast_S1x8_S4096x8_0_1 (broadcastInDim S1x8 ![1] bcast_S8_S1x8_1
    (Host.reduce IntOp.addi k (constantI S_ 32 0#32) reducesTo_S4096x8_S8_d0 h_S_)))

/-- A mask cut down to the entries whose place is below the capacity. -/
def fits (k r : IVec S4096x8 32) : IVec S4096x8 32 :=
  muli k (extui 32 (cmpi .slt r (broadcastInDim S4096x8 ![] bcast_S_S4096x8 (constantI S_ 32 1024#32))) natLt_1_32)

/-- The sum over a row of the places a mask marks. -/
def rowPlace (k r : IVec S4096x8 32) : IVec S4096 32 :=
  Host.reduce IntOp.addi (muli k r) (constantI S_ 32 0#32) reducesTo_S4096x8_S4096_d1 h_S_

/-- The probabilities a mask marks, zero elsewhere. -/
def weight (k : IVec S4096x8 32) (p : FVec Ideal S4096x8 .f32) : FVec Ideal S4096x8 .f32 := mulf (sitofp .f32 k) p

/-- One in the column an index names, zero elsewhere, over the capacity. -/
def slotHot (a : IVec S4096 32) : FVec Ideal S4096x1024 .f32 :=
  uitofp .f32 (cmpi .eq
    (broadcastInDim S4096x1024 ![0, 1] bcast_S4096x1_S4096x1024_0_1 (broadcastInDim S4096x1 ![0] bcast_S4096_S4096x1_0 a))
    (broadcastInDim S4096x1024 ![0, 1] bcast_S1x1024_S4096x1024_0_1 (iotaInDim S1x1024 32 1)))

/-- Each row's outer product of the weights and the slot's indicator. -/
def spread (w : FVec Ideal S4096x8 .f32) (h : FVec Ideal S4096x1024 .f32) : FVec Ideal S4096x8x1024 .f32 :=
  mulf
    (broadcastInDim S4096x8x1024 ![0, 1, 2] bcast_S4096x8x1_S4096x8x1024_0_1_2
      (broadcastInDim S4096x8x1 ![0, 1] bcast_S4096x8_S4096x8x1_0_1 w))
    (broadcastInDim S4096x8x1024 ![0, 1, 2] bcast_S4096x1x1024_S4096x8x1024_0_1_2
      (broadcastInDim S4096x1x1024 ![0, 2] bcast_S4096x1024_S4096x1x1024_0_2 h))

/-- The mask of the first choices. -/
def first (x : FVec Ideal S4096x8 .f32) : IVec S4096x8 32 := hot (top (probs x))

/-- The mask of the second choices. -/
def second (x : FVec Ideal S4096x8 .f32) : IVec S4096x8 32 := hot (top (without (first x) (probs x)))

/-- The part of the combine weights that comes from a mask and its places. -/
def part (x : FVec Ideal S4096x8 .f32) (k r : IVec S4096x8 32) : FVec Ideal S4096x8x1024 .f32 :=
  spread (weight (fits k r) (probs x)) (slotHot (rowPlace (fits k r) r))

/-- The combine weights: the first result. -/
def combine (x : FVec Ideal S4096x8 .f32) : FVec Ideal S4096x8x1024 .f32 :=
  addf (part x (first x) (place (first x))) (part x (second x) (placeAfter (first x) (second x)))

/-- Which combine weights are not zero: the second result. -/
def mask (x : FVec Ideal S4096x8 .f32) : IVec S4096x8x1024 1 :=
  id (cmpf .une (combine x) (broadcastInDim S4096x8x1024 ![] bcast_S_S4096x8x1024 (constant S_ .f32 0x00000000#32)))

end Cert.Proof.Ref

end
-- ==== Proof.Expand.lean ====
/-
  What one block of the expanding kernel computes: each of its rows reads one token and one expert of the packed table.
-/
module

public import proofs.«01_k».proof.Proof.Gen.KernelIdeal
public import proofs.«01_k».proof.Proof.Gen.KernelIdeal.Frame
public import Idealize.ShloMosaic.Lib.Pointwise
public import Idealize.ShloMosaic.Lib.Pipeline.ValueKit
public import Idealize.ShloMosaic.PureOps.Ideal

@[expose] public section

set_option maxRecDepth 16384

noncomputable section

namespace Cert.Proof.Ker

open Idealize.ShloMosaic Cert.KernelIdeal Cert.KernelIdeal.Gen

/-- The flooring quotient of a word as the kernel spells it. -/
def floorWord (d w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt d 0#32)) (Scalar.extui (Scalar.cmpi .slt d 0#32))))
      (IntOp.cmpi .ne (IntOp.remsi .vector w d) 0#32))
    (IntOp.subi (IntOp.divsi .vector w d) 1#32)
    (IntOp.divsi .vector w d)

/-- The flooring remainder of a word as the kernel spells it. -/
def floorRem (d w : BitVec 32) : BitVec 32 :=
  Scalar.select
    (IntOp.andi
      (IntOp.xori (IntOp.cmpi .slt (IntOp.remsi .vector w d) 0#32) (Scalar.cmpi .slt d 0#32))
      (IntOp.cmpi .ne (IntOp.remsi .vector w d) 0#32))
    (IntOp.addi (IntOp.remsi .vector w d) d)
    (IntOp.remsi .vector w d)

/-- The flooring quotient by eight of a row number is the natural one. -/
theorem floorWord_row : ∀ r : Fin 2048, floorWord 8#32 (BitVec.ofNat 32 r.val) = BitVec.ofNat 32 (r.val / 8) := by
  decide +kernel

/-- The flooring remainder by eight of a row number is the natural one. -/
theorem floorRem_row : ∀ r : Fin 2048, floorRem 8#32 (BitVec.ofNat 32 r.val) = BitVec.ofNat 32 (r.val % 8) := by
  decide +kernel

/-- An equality comparison's bit. -/
theorem bit_eq {n : ℕ} (a b : BitVec n) : IntOp.cmpi .eq a b = if a = b then 1#1 else 0#1 := by
  by_cases h : a = b
  · subst h; simp [IntOp.cmpi]
  · rw [if_neg h]
    show BitVec.ofBool (a == b) = 0#1
    rw [beq_false_of_ne h]; rfl

/-- Words below 2^32 are equal exactly when the numbers are. -/
theorem word_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The equality comparison's bit of two small numbers' words. -/
theorem bit_nat {a b : ℕ} (ha : a < 2 ^ 32) (hb : b < 2 ^ 32) :
    IntOp.cmpi .eq (BitVec.ofNat 32 a) (BitVec.ofNat 32 b) = if a = b then 1#1 else 0#1 := by
  rw [bit_eq]; exact if_congr (word_eq_iff ha hb) rfl rfl

/-- An equality comparison's bit, widened and read as a number, is one or zero. -/
theorem indicator {a b : ℕ} (ha : a < 2 ^ 32) (hb : b < 2 ^ 32) :
    (FloatOps.sitofp (F := Ideal) FTy.f32 (BitVec.setWidth 32
      (IntOp.cmpi .eq (BitVec.ofNat 32 a) (BitVec.ofNat 32 b))) : EReal) = if a = b then 1 else 0 := by
  rw [bit_nat ha hb]
  by_cases h : a = b
  · rw [if_pos h, if_pos h]
    show ((((BitVec.setWidth 32 1#1).toInt : ℤ) : ℝ) : EReal) = 1
    norm_num [show (BitVec.setWidth 32 1#1).toInt = 1 from by decide]
  · rw [if_neg h, if_neg h]
    show ((((BitVec.setWidth 32 0#1).toInt : ℤ) : ℝ) : EReal) = 0
    norm_num [show (BitVec.setWidth 32 0#1).toInt = 0 from by decide]

/-- The matrix product with the row selector copies row `r / 8` of the block. -/
theorem pick_row (x : Vec Ideal S256x40 .f32) (r : Fin 2048) (l : Fin 40) :
    k1_pay2 x (ix2 r l) = x (ix2 ⟨r.val / 8, by omega⟩ l) := by
  unfold k1_pay2
  pointwise
  refine (Finset.sum_congr rfl (g := fun k : Fin 256 => if k = ⟨r.val / 8, by omega⟩ then x (ix2 k l) else 0)
    fun k _ => ?_).trans ?_
  · show (FloatOps.sitofp (F := Ideal) FTy.f32 (BitVec.setWidth 32 (IntOp.cmpi .eq (floorWord 8#32 (BitVec.ofNat 32 r.val))
      (BitVec.ofNat 32 k.val))) : EReal) * _ = _
    rw [floorWord_row, indicator (by omega) (by omega)]
    by_cases h : r.val / 8 = k.val
    · rw [if_pos h, if_pos (Fin.ext h.symm), one_mul]
    · rw [if_neg h, if_neg (fun e => h (by rw [e])), zero_mul]
  · rw [Finset.sum_ite_eq' Finset.univ, if_pos (Finset.mem_univ _)]

/-- The lane selector keeps the lanes whose remainder by eight is the row's. -/
theorem pick_lane (v : FVec Ideal S2048x40 .f32) (r : Fin 2048) (l : Fin 40) :
    k1_pay6 v (iota .tc S2048x40 32 [0] iota_S2048x40_d0_w32)
      (Scalar.select (Scalar.cmpi .eq 8#32 0#32) 1#32 8#32) k1_pay3 k1_pay4 k1_pay5
      (Scalar.cmpi .slt (Scalar.select (Scalar.cmpi .eq 8#32 0#32) 1#32 8#32) 0#32) (ix2 r l)
      = if l.val % 8 = r.val % 8 then v (ix2 r l) else 0 := by
  unfold k1_pay6 k1_pay3 k1_pay4 k1_pay5 k1_pay3
  pointwise
  show Scalar.select (IntOp.cmpi .eq (floorRem 8#32 (BitVec.ofNat 32 l.val)) (floorRem 8#32 (BitVec.ofNat 32 r.val))) _ _ = _
  rw [floorRem_row, show BitVec.ofNat 32 l.val = BitVec.ofNat 32 (⟨l.val, by omega⟩ : Fin 2048).val from rfl, floorRem_row]
  rw [bit_nat (by omega) (by omega)]
  by_cases h : l.val % 8 = r.val % 8
  · rw [if_pos h, if_pos h]; rfl
  · rw [if_neg h, if_neg h]; rfl

/-- A row of masked lanes times the selector of one of the five groups. -/
def groupSum (v : FVec Ideal S2048x40 .f32) (r : Fin 2048) (g : BitVec 32) : EReal :=
  ∑ l : Fin 40, v (ix2 r l) * (FloatOps.sitofp (F := Ideal) FTy.f32 (BitVec.setWidth 32
    (IntOp.cmpi .eq (floorWord 8#32 (BitVec.ofNat 32 l.val)) g)) : EReal)

/-- The group's sum is its one kept lane. -/
theorem groupSum_eq (v w : FVec Ideal S2048x40 .f32) (r : Fin 2048) (g : ℕ) (hg : g < 5)
    (hv : ∀ l : Fin 40, v (ix2 r l) = if l.val % 8 = r.val % 8 then w (ix2 r l) else 0) :
    groupSum v r (BitVec.ofNat 32 g) = w (ix2 r ⟨8 * g + r.val % 8, by omega⟩) := by
  unfold groupSum
  refine (Finset.sum_congr rfl
    (g := fun k : Fin 40 => if k = ⟨8 * g + r.val % 8, by omega⟩ then w (ix2 r k) else 0) fun l _ => ?_).trans ?_
  · rw [show BitVec.ofNat 32 l.val = BitVec.ofNat 32 (⟨l.val, by omega⟩ : Fin 2048).val from rfl, floorWord_row,
      indicator (by omega) (by omega), hv l]
    by_cases h : l.val = 8 * g + r.val % 8
    · rw [if_pos (by omega), if_pos (by simp only []; omega), if_pos (Fin.ext h), mul_one]
    · rw [if_neg (c := l = _) (fun e => h (congrArg Fin.val e))]
      by_cases h1 : l.val % 8 = r.val % 8
      · rw [if_neg (c := (⟨l.val, _⟩ : Fin 2048).val / 8 = g) (by simp only []; omega), mul_zero]
      · rw [if_neg h1, zero_mul]
  · rw [Finset.sum_ite_eq' Finset.univ, if_pos (Finset.mem_univ _)]

/-- The slot word that two packed numbers name in the expanding kernel. -/
def blockWord (a b : EReal) : BitVec 32 :=
  FloatOps.fptosi (F := Ideal) (φ := .f32) 32
    ((a * Ideal.ofBits .f32 0x42800000#32 + b + Ideal.ofBits .f32 0x3F000000#32 : EReal) : Ideal .f32)

/-- The stored block at an element, over its five group sums. -/
theorem stored (v : FVec Ideal S2048x40 .f32) (r : Fin 2048) (c : Fin 1024) :
    k1_pay1 v (iota .tc S40x5 32 [1] iota_S40x5_d1_w32) k1_pay7 k1_pay8 k1_pay9 k1_pay10 (ix2 r c)
      = Scalar.select (IntOp.cmpi .eq (BitVec.ofNat 32 c.val) (blockWord (groupSum v r 0#32) (groupSum v r 1#32)))
        (groupSum v r 2#32 + groupSum v r 3#32 + groupSum v r 4#32) (0 : EReal) := by
  unfold k1_pay1 k1_pay7 k1_pay8 k1_pay9 k1_pay10
  pointwise
  unfold blockWord groupSum floorWord
  with_reducible rfl

/-- The block's row `r`, column `c`: the weight of token `r / 8` and expert `r % 8` if `c` is its slot, zero elsewhere. -/
theorem block (x : Vec Ideal S256x40 .f32) (r : Fin 2048) (c : Fin 1024) :
    out1_1 x (ix2 r c) =
      if BitVec.ofNat 32 c.val = blockWord (x (ix2 ⟨r.val / 8, by omega⟩ ⟨8 * 0 + r.val % 8, by omega⟩))
          (x (ix2 ⟨r.val / 8, by omega⟩ ⟨8 * 1 + r.val % 8, by omega⟩))
      then (x (ix2 ⟨r.val / 8, by omega⟩ ⟨8 * 2 + r.val % 8, by omega⟩) : EReal)
        + x (ix2 ⟨r.val / 8, by omega⟩ ⟨8 * 3 + r.val % 8, by omega⟩)
        + x (ix2 ⟨r.val / 8, by omega⟩ ⟨8 * 4 + r.val % 8, by omega⟩)
      else 0 := by
  frame_out
  rw [stored]
  have hl := fun l : Fin 40 => pick_lane (k1_pay2 x) r l
  have h0 := groupSum_eq _ _ r 0 (by omega) hl
  have h1 := groupSum_eq _ _ r 1 (by omega) hl
  have h2 := groupSum_eq _ _ r 2 (by omega) hl
  have h3 := groupSum_eq _ _ r 3 (by omega) hl
  have h4 := groupSum_eq _ _ r 4 (by omega) hl
  rw [pick_row] at h0 h1 h2 h3 h4
  rw [h0, h1, h2, h3, h4, bit_eq]
  split <;> rfl

end Cert.Proof.Ker

end
-- ==== Proof.Top.lean ====
/-
  The first largest entry of a row of eight numbers, and the two ways the programs find it: the least index among the
  entries equal to the row's maximum, and a fold over the pairs of an entry and its index.
-/
module

public import proofs.«01_k».proof.Proof.RefVal
public import proofs.«01_k».proof.Proof.Expand
public import Idealize.ShloMosaic.Lib.Pointwise
public import Idealize.ShloMosaic.Lib.PlanTiles.Rows

@[expose] public section

set_option maxRecDepth 16384

noncomputable section

namespace Cert.Proof

open Idealize.ShloMosaic

/-- Entry `e` is the first largest of its row. -/
def IsTop (p : Fin 8 → EReal) (e : Fin 8) : Prop := (∀ j, p j ≤ p e) ∧ ∀ j, j < e → p j < p e

noncomputable instance (p : Fin 8 → EReal) (e : Fin 8) : Decidable (IsTop p e) := Classical.dec _

/-- A row has at most one first largest entry. -/
theorem IsTop.unique {p : Fin 8 → EReal} {a b : Fin 8} (ha : IsTop p a) (hb : IsTop p b) : a = b := by
  rcases lt_trichotomy a b with h | h | h
  · exact absurd (hb.2 a h) (not_lt.2 (ha.1 b))
  · exact h
  · exact absurd (ha.2 b h) (not_lt.2 (hb.1 a))

/-- The pattern of minus infinity. -/
theorem neg_inf : Ideal.ofBits .f32 0xFF800000#32 = ⊥ := by simp [Ideal.ofBits, Ideal.ieee]

/-- The maximum of a row as a fold from minus infinity is one of its entries and bounds the others. -/
theorem rowFold_spec (p : Fin 8 → EReal) :
    (∀ j, p j ≤ Finset.fold max (Ideal.ofBits .f32 0xFF800000#32) p Finset.univ)
      ∧ ∃ j, p j = Finset.fold max (Ideal.ofBits .f32 0xFF800000#32) p Finset.univ := by
  rw [neg_inf]
  have h : Finset.fold max ⊥ p Finset.univ = Finset.univ.sup p := rfl
  rw [h]
  refine ⟨fun j => Finset.le_sup (Finset.mem_univ j), ?_⟩
  obtain ⟨j, -, hj⟩ := Finset.exists_mem_eq_sup Finset.univ ⟨0, Finset.mem_univ _⟩ p
  exact ⟨j, hj.symm⟩

/-- A fold of word minima of numbers below 2^31 is the word of the fold of their minima. -/
theorem minFold (g : Fin 8 → ℕ) (hg : ∀ j, g j < 2 ^ 31) (S : Finset (Fin 8)) :
    Finset.fold IntOp.minsi 2147483647#32 (fun j => BitVec.ofNat 32 (g j)) S
      = BitVec.ofNat 32 (Finset.fold min 2147483647 g S)
    ∧ Finset.fold min 2147483647 g S < 2 ^ 31 := by
  induction S using Finset.cons_induction with
  | empty => exact ⟨rfl, by norm_num [Finset.fold_empty]⟩
  | cons a S ha ih =>
    rw [Finset.fold_cons, Finset.fold_cons, ih.1]
    refine ⟨?_, lt_of_le_of_lt (min_le_left _ _) (hg a)⟩
    rw [PlanTiles.minsi_word (hg a) ih.2, min_comm]

/-- The first largest entry is where the entry's index is the least among the entries equal to the maximum. -/
theorem leastIndex (p : Fin 8 → EReal) (e : Fin 8) :
    IntOp.cmpi .eq (BitVec.ofNat 32 e.val)
      (Finset.fold IntOp.minsi 2147483647#32
        (fun j : Fin 8 => if p j = Finset.fold max (Ideal.ofBits .f32 0xFF800000#32) p Finset.univ then BitVec.ofNat 32 j.val
          else 8#32) Finset.univ)
      = if IsTop p e then 1#1 else 0#1 := by
  obtain ⟨hle, j0, hj0⟩ := rowFold_spec p
  generalize Finset.fold max (Ideal.ofBits .f32 0xFF800000#32) p Finset.univ = M at hle hj0
  have hfun : (fun j : Fin 8 => if p j = M then BitVec.ofNat 32 j.val else 8#32)
      = fun j => BitVec.ofNat 32 (if p j = M then j.val else 8) := by
    funext j; by_cases h : p j = M
    · simp only [if_pos h]
    · simp only [if_neg h]
  have hg : ∀ j : Fin 8, (if p j = M then j.val else 8) < 2 ^ 31 := fun j => by split <;> omega
  rw [hfun, (minFold _ hg _).1, Ker.bit_nat (by omega) (by have := (minFold _ hg Finset.univ).2; omega)]
  refine if_congr ?_ rfl rfl
  have hmin : ∀ j : Fin 8, Finset.fold min 2147483647 (fun j : Fin 8 => if p j = M then j.val else 8) Finset.univ
      ≤ if p j = M then j.val else 8 := fun j =>
    (Finset.fold_min_le _).2 (Or.inr ⟨j, Finset.mem_univ _, le_rfl⟩)
  constructor
  · intro h
    have he : p e = M := by
      obtain h1 | ⟨j, -, hj⟩ := (Finset.fold_min_le (s := Finset.univ) (f := fun j : Fin 8 => if p j = M then j.val else 8)
        (b := 2147483647) e.val).1 (le_of_eq h.symm)
      · omega
      · by_cases hp : p j = M
        · rw [if_pos hp] at hj
          have := hmin j
          rw [if_pos hp, ← h] at this
          have : e = j := Fin.ext (by omega)
          rw [this]; exact hp
        · rw [if_neg hp] at hj; omega
    refine ⟨fun j => he ▸ hle j, fun j hj => lt_of_le_of_ne (he ▸ hle j) fun heq => ?_⟩
    have := hmin j
    rw [if_pos (heq.trans he), ← h] at this
    exact absurd hj (not_lt.2 this)
  · intro h
    have he : p e = M := le_antisymm (hle e) (hj0 ▸ h.1 j0)
    refine le_antisymm ((Finset.le_fold_min _).2 ⟨by omega, fun j _ => ?_⟩) ?_
    · by_cases hp : p j = M
      · rw [if_pos hp]
        by_contra hlt
        exact absurd (h.2 j (not_le.1 hlt)) (by rw [hp, he]; exact lt_irrefl _)
      · rw [if_neg hp]; omega
    · have := hmin e; rwa [if_pos he] at this

/-- What the fold over pairs has seen after the entries `S`: the largest of them so far and its first index. -/
def Seen (p : Fin 8 → EReal) (S : Fin 8 → Prop) (acc : EReal × BitVec 32) : Prop :=
  ∃ e : Fin 8, acc.2 = BitVec.ofNat 32 e.val ∧ (∀ j, S j → p j ≤ acc.1) ∧ (∀ j, S j → p j = acc.1 → e ≤ j)
    ∧ ((acc.1 = ⊥ ∧ e = 0) ∨ acc.1 = p e)

/-- One step of the fold over pairs. -/
theorem seen_step (p : Fin 8 → EReal) (S : Fin 8 → Prop) (acc : EReal × BitVec 32) (h : Seen p S acc) (k : Fin 8) :
    Seen p (fun j => S j ∨ j = k) (Cert.ReferenceIdeal.reducer_argmax_f32_i32 (F := Ideal) acc (p k, BitVec.ofNat 32 k.val)) := by
  obtain ⟨a, i⟩ := acc
  obtain ⟨e, hi, hle, hfirst, hval⟩ := h
  dsimp only at hi hle hfirst hval
  subst hi
  have hr : Cert.ReferenceIdeal.reducer_argmax_f32_i32 (F := Ideal) (a, BitVec.ofNat 32 e.val) (p k, BitVec.ofNat 32 k.val)
      = (if p k < a then a else p k, if p k < a ∨ (a = p k ∧ e < k) then BitVec.ofNat 32 e.val else BitVec.ofNat 32 k.val) := by
    unfold Cert.ReferenceIdeal.reducer_argmax_f32_i32
    have hs : IntOp.cmpi .slt (BitVec.ofNat 32 e.val) (BitVec.ofNat 32 k.val) = if e < k then 1#1 else 0#1 := by
      show BitVec.ofBool ((BitVec.ofNat 32 e.val).slt (BitVec.ofNat 32 k.val)) = _
      rw [Routing.slt_ofNat32 (by omega) (by omega)]
      by_cases h : e < k
      · rw [if_pos h, decide_eq_true (show e.val < k.val from h)]; rfl
      · rw [if_neg h, decide_eq_false (show ¬ e.val < k.val from h)]; rfl
    have h1 : FloatOps.cmpf (F := Ideal) (φ := .f32) .ogt a (p k) = if p k < a then 1#1 else 0#1 := by
      rw [Ideal.cmpf_def]; unfold Ideal.cmp
      by_cases c : p k < a
      · rw [if_pos c]; exact congrArg BitVec.ofBool (decide_eq_true c)
      · rw [if_neg c]; exact congrArg BitVec.ofBool (decide_eq_false c)
    have h2 : FloatOps.cmpf (F := Ideal) (φ := .f32) .une a a = 0#1 := by
      simp [Ideal.cmpf_def, Ideal.cmp]
    have h3 : FloatOps.cmpf (F := Ideal) (φ := .f32) .oeq a (p k) = if a = p k then 1#1 else 0#1 := by
      rw [Ideal.cmpf_def]; unfold Ideal.cmp
      by_cases c : a = p k
      · rw [if_pos c]; exact congrArg BitVec.ofBool (decide_eq_true c)
      · rw [if_neg c]; exact congrArg BitVec.ofBool (decide_eq_false c)
    simp only [hs, h1, h2, h3]
    by_cases c1 : p k < a
    · simp only [if_pos c1, if_pos (Or.inl c1 : p k < a ∨ (a = p k ∧ e < k))]
      split <;> split <;> rfl
    · by_cases c2 : a = p k
      · by_cases c3 : e < k
        · simp only [if_neg c1, if_pos c2, if_pos c3, if_pos (Or.inr ⟨c2, c3⟩ : p k < a ∨ (a = p k ∧ e < k))]; rfl
        · simp only [if_neg c1, if_pos c2, if_neg c3, if_neg (show ¬ (p k < a ∨ (a = p k ∧ e < k)) from by tauto)]; rfl
      · simp only [if_neg c1, if_neg c2, if_neg (show ¬ (p k < a ∨ (a = p k ∧ e < k)) from by tauto)]
        split <;> rfl
  rw [hr]
  rcases lt_trichotomy (p k) a with hk | hk | hk
  · refine ⟨e, ?_, ?_, ?_, ?_⟩
    · simp [hk]
    · rintro j (hj | rfl)
      · simpa [hk] using hle j hj
      · simpa [hk] using hk.le
    · rintro j (hj | rfl)
      · simpa [hk] using hfirst j hj
      · intro hj; simp only [if_pos hk] at hj; exact absurd hj hk.ne
    · simpa [hk] using hval
  · subst hk
    have h0 : ¬ p k < p k := lt_irrefl _
    by_cases hek : e < k
    · refine ⟨e, by simp [hek], ?_, ?_, by simpa [h0] using hval⟩
      · rintro j (hj | rfl)
        · simpa [h0] using hle j hj
        · simp
      · rintro j (hj | rfl)
        · simpa [h0] using hfirst j hj
        · intro _; exact hek.le
    · refine ⟨k, by simp [hek], ?_, ?_, by simp⟩
      · rintro j (hj | rfl)
        · simpa [h0] using hle j hj
        · simp
      · rintro j (hj | rfl)
        · intro hjv; exact (not_lt.1 hek).trans (hfirst j hj (by simpa [h0] using hjv))
        · intro _; exact le_rfl
  · have h0 : ¬ p k < a := not_lt.2 hk.le
    refine ⟨k, by simp [h0, hk.ne], ?_, ?_, by simp [h0]⟩
    · rintro j (hj | rfl)
      · simpa [h0] using (hle j hj).trans hk.le
      · simp [h0]
    · rintro j (hj | rfl)
      · intro hjv; simp only [if_neg h0] at hjv; exact absurd (hjv ▸ hle j hj) (not_le.2 hk)
      · intro _; exact le_rfl

/-- The fold over pairs along a list of columns. -/
theorem seen_list (p : Fin 8 → EReal) (l : List (Fin 8)) : ∀ (S : Fin 8 → Prop) (acc : EReal × BitVec 32), Seen p S acc →
    Seen p (fun j => S j ∨ j ∈ l) ((l.map fun k => (p k, BitVec.ofNat 32 k.val)).foldl
      (Cert.ReferenceIdeal.reducer_argmax_f32_i32 (F := Ideal)) acc) := by
  induction l with
  | nil => intro S acc h; simpa using h
  | cons k l ih =>
    intro S acc h
    have := ih _ _ (seen_step p S acc h k)
    simp only [List.map_cons, List.foldl_cons, List.mem_cons]
    simpa only [or_assoc] using this

/-- Once every entry is seen, the fold's index is the first largest entry's. -/
theorem seen_all (p : Fin 8 → EReal) (acc : EReal × BitVec 32) (h : Seen p (fun _ => True) acc) :
    ∃ e : Fin 8, acc.2 = BitVec.ofNat 32 e.val ∧ IsTop p e := by
  obtain ⟨e, hi, hle, hfirst, hval⟩ := h
  refine ⟨e, hi, ?_⟩
  have he : acc.1 = p e := by
    rcases hval with ⟨h1, -⟩ | h1
    · rw [h1]; exact (le_bot_iff.1 (h1 ▸ hle e trivial)).symm
    · exact h1
  exact ⟨fun j => he ▸ hle j trivial, fun j hj => lt_of_le_of_ne (he ▸ hle j trivial)
    fun heq => absurd hj (not_lt.2 (hfirst j trivial (heq.trans he.symm)))⟩

namespace Ref

open Cert.ReferenceIdeal Cert.ReferenceIdeal.Gen

/-- An index's column. -/
def col (i : S4096x8.Idx) : Fin 8 := i 1

/-- The columns of a row in the order the fold runs over them. -/
def cols (t : Fin 4096) : List (Fin 8) :=
  ((List.finRange S4096x8.numel).filter fun n => reducesTo_S4096x8_S4096_d1.drop (S4096x8.rowMajor.symm n) = ix1 t).map
    fun n => col (S4096x8.rowMajor.symm n)

/-- They are all eight. -/
theorem mem_cols (t : Fin 4096) (j : Fin 8) : j ∈ cols t := by
  refine List.mem_map.2 ⟨S4096x8.rowMajor (ix2 t j), List.mem_filter.2 ⟨List.mem_finRange _, decide_eq_true ?_⟩, ?_⟩
  · rw [Equiv.symm_apply_apply]
    exact (reducesTo_S4096x8_S4096_d1.fiber_r2_a1 (ix1 t) (ix2 t j)).2 ⟨j, rfl⟩
  · rw [Equiv.symm_apply_apply]; rfl

/-- The pairs the fold runs over. -/
theorem pairs (p : FVec Ideal S4096x8 .f32) (t : Fin 4096) :
    Host.argReduceFiber p (iotaInDim S4096x8 32 1) reducesTo_S4096x8_S4096_d1 (ix1 t)
      = (cols t).map fun k => (p (ix2 t k), BitVec.ofNat 32 k.val) := by
  unfold Host.argReduceFiber cols
  rw [List.map_map]
  refine List.map_congr_left fun n hn => ?_
  have hd := of_decide_eq_true (List.mem_filter.1 hn).2
  obtain ⟨k, hk⟩ := (reducesTo_S4096x8_S4096_d1.fiber_r2_a1 (ix1 t) (S4096x8.rowMajor.symm n)).1 hd
  show (p (S4096x8.rowMajor.symm n), iotaInDim S4096x8 32 1 (S4096x8.rowMajor.symm n))
    = (p (ix2 t (col (S4096x8.rowMajor.symm n))), BitVec.ofNat 32 (col (S4096x8.rowMajor.symm n)).val)
  rw [← hk]
  rfl

/-- The reference's index of a row is the row's first largest entry. -/
theorem top_spec (p : FVec Ideal S4096x8 .f32) (t : Fin 4096) :
    ∃ e : Fin 8, top p (ix1 t) = BitVec.ofNat 32 e.val ∧ IsTop (fun j => p (ix2 t j)) e := by
  unfold top
  rw [Ideal.argReduce_eq_reduce2, Host.reduce2_eq_foldl_fiber, pairs]
  refine seen_all _ _ ?_
  have := seen_list (fun j => p (ix2 t j)) (cols t) (fun _ => False)
      (constant (F := Ideal) S_ .f32 0xFF800000#32 (Shape.Idx.first h_S_), constantI S_ 32 0#32 (Shape.Idx.first h_S_))
      ⟨0, rfl, fun _ h => h.elim, fun _ h => h.elim, Or.inl ⟨neg_inf, rfl⟩⟩
  obtain ⟨e, h1, h2, h3, h4⟩ := this
  exact ⟨e, h1, fun j _ => h2 j (Or.inr (mem_cols t j)), fun j _ => h3 j (Or.inr (mem_cols t j)), h4⟩

/-- A row's one-hot of its first largest entry. -/
theorem hot_top (p : FVec Ideal S4096x8 .f32) (t : Fin 4096) (e : Fin 8) :
    hot (top p) (ix2 t e) = if IsTop (fun j => p (ix2 t j)) e then 1#32 else 0#32 := by
  obtain ⟨e0, h0, htop⟩ := top_spec p t
  unfold hot
  pointwise
  rw [h0, Ker.bit_nat (by omega) (by omega)]
  by_cases h : e0.val = e.val
  · have h' : e0 = e := Fin.ext h
    subst h'
    rw [if_pos rfl, if_pos htop]; rfl
  · rw [if_neg h, if_neg fun h2 => h (congrArg Fin.val (htop.unique h2))]; rfl

end Ref

end Cert.Proof

end
-- ==== Proof.Scan.lean ====
/-
  Running sums of words down a column: the kernel's doubling steps and the reference's windows both make them.
-/
module

public import proofs.«01_k».proof.Proof.RefVal
public import proofs.«01_k».proof.Proof.Gen.KernelIdeal.Frame
public import Idealize.ShloMosaic.Lib.Pointwise

@[expose] public section

set_option maxRecDepth 16384

noncomputable section

namespace Cert.Proof

open Idealize.ShloMosaic

/-- The sum of the first `n` numbers. -/
def run (f : ℕ → ℕ) (n : ℕ) : ℕ := ∑ s ∈ Finset.range n, f s

/-- The sum of the last `k` numbers up to position `t`. -/
def recent (f : ℕ → ℕ) (k t : ℕ) : ℕ := ∑ i ∈ Finset.range k, if i ≤ t then f (t - i) else 0

/-- Twice as many numbers: those, and those as far back again. -/
theorem recent_double (f : ℕ → ℕ) (k t : ℕ) :
    recent f (k + k) t = recent f k t + if t < k then 0 else recent f k (t - k) := by
  unfold recent
  rw [Finset.sum_range_add]
  congr 1
  by_cases h : t < k
  · rw [if_pos h]
    exact Finset.sum_eq_zero fun i _ => if_neg (by omega)
  · rw [if_neg h]
    refine Finset.sum_congr rfl fun i _ => ?_
    by_cases hi : i ≤ t - k
    · rw [if_pos hi, if_pos (by omega), show t - (k + i) = t - k - i by omega]
    · rw [if_neg hi, if_neg (by omega)]

/-- Reaching back past the start gives the running sum. -/
theorem recent_all (f : ℕ → ℕ) (k t : ℕ) (h : t < k) : recent f k t = run f (t + 1) := by
  unfold recent run
  rw [← Finset.sum_range_reflect f (t + 1)]
  refine (Finset.sum_subset (Finset.range_mono (show t + 1 ≤ k by omega)) fun i _ hi => if_neg (by
    have := Finset.mem_range.not.1 hi; omega)).symm.trans ?_
  refine Finset.sum_congr rfl fun i hi => ?_
  have := Finset.mem_range.1 hi
  rw [if_pos (by omega)]
  congr 1

/-- The words of two numbers add to the word of their sum. -/
theorem word_add (a b : ℕ) : IntOp.addi (BitVec.ofNat 32 a) (BitVec.ofNat 32 b) = BitVec.ofNat 32 (a + b) :=
  (BitVec.ofNat_add a b).symm

/-- A column of a table as a sequence of numbers. -/
def column {m n : ℕ} (v : IVec ⟨2, ![m, n]⟩ 32) (c : Fin n) (t : ℕ) : ℕ :=
  if h : t < m then (v (ix2 ⟨t, h⟩ c)).toNat else 0

namespace Ker

open Cert.KernelIdeal Cert.KernelIdeal.Gen

/-- The table `w` holds the sums of the last `k` entries of the columns of `v`. -/
def Sums (v w : IVec S4096x16 32) (k : ℕ) : Prop :=
  ∀ (t : Fin 4096) (c : Fin 16), w (ix2 t c) = BitVec.ofNat 32 (recent (column v c) k t.val)

/-- A table holds its own entries. -/
theorem sums_one (v : IVec S4096x16 32) : Sums v v 1 := fun t c => by
  unfold recent column
  simp

/-- A table added to itself moved down by `K` rows. -/
def step (K R : ℕ) (hs : S4096x16.Slices ![0, 0] ⟨2, ![R, 16]⟩)
    (hc : Shape.Concatenates [⟨2, ![K, 16]⟩, ⟨2, ![R, 16]⟩] S4096x16 0) (w : IVec S4096x16 32) : IVec S4096x16 32 :=
  addi w (concatenate S4096x16 0 [⟨(⟨2, ![K, 16]⟩ : Shape), broadcast (⟨2, ![K, 16]⟩ : Shape) 0#32⟩,
      ⟨(⟨2, ![R, 16]⟩ : Shape), extractStridedSlice ⟨2, ![R, 16]⟩ ![0, 0] w hs⟩] hc)

/-- Adding a table moved down by `K` rows doubles the reach. -/
theorem sums_step (K R L : ℕ) (hL : L = K + K) (v w : IVec S4096x16 32) (hs hc) (hw : Sums v w K) :
    Sums v (step K R hs hc w) L := by
  subst hL
  intro t c
  unfold step
  rw [recent_double, ← word_add, ← hw t c]
  pointwise
  refine congrArg (IntOp.addi (w (ix2 t c))) ?_
  by_cases h : t.val < K
  · rw [dif_pos h, if_pos h]
  · rw [dif_neg h, if_neg h]
    exact hw ⟨t.val - K, by omega⟩ c

/-- The first two doubling steps. -/
theorem steps_low (x : Vec Ideal S4096x8 .f32) :
    k0_pay4 x = step 2 4094 slices_S4096x16_o0_0_S4094x16 concatenates_S2x16_S4094x16_S4096x16_d0
      (step 1 4095 slices_S4096x16_o0_0_S4095x16 concatenates_S1x16_S4095x16_S4096x16_d0
        (concatenate S4096x16 1 [⟨S4096x8, extui 32 (k0_pay2 x) natLt_1_32⟩, ⟨S4096x8, extui 32 (k0_pay3 x) natLt_1_32⟩]
          concatenates_S4096x8_S4096x8_S4096x16_d1)) := by
  simp only [k0_pay4, step]

/-- The other ten doubling steps. -/
theorem steps_high (w : IVec S4096x16 32) :
    k0_pay7 w k0_pay5 (extractStridedSlice S4092x16 ![0, 0] w slices_S4096x16_o0_0_S4092x16)
      = step 2048 2048 slices_S4096x16_o0_0_S2048x16 concatenates_S2048x16_S2048x16_S4096x16_d0
        (step 1024 3072 slices_S4096x16_o0_0_S3072x16 concatenates_S1024x16_S3072x16_S4096x16_d0
        (step 512 3584 slices_S4096x16_o0_0_S3584x16 concatenates_S512x16_S3584x16_S4096x16_d0
        (step 256 3840 slices_S4096x16_o0_0_S3840x16 concatenates_S256x16_S3840x16_S4096x16_d0
        (step 128 3968 slices_S4096x16_o0_0_S3968x16 concatenates_S128x16_S3968x16_S4096x16_d0
        (step 64 4032 slices_S4096x16_o0_0_S4032x16 concatenates_S64x16_S4032x16_S4096x16_d0
        (step 32 4064 slices_S4096x16_o0_0_S4064x16 concatenates_S32x16_S4064x16_S4096x16_d0
        (step 16 4080 slices_S4096x16_o0_0_S4080x16 concatenates_S16x16_S4080x16_S4096x16_d0
        (step 8 4088 slices_S4096x16_o0_0_S4088x16 concatenates_S8x16_S4088x16_S4096x16_d0
        (step 4 4092 slices_S4096x16_o0_0_S4092x16 concatenates_S4x16_S4092x16_S4096x16_d0 w))))))))) := by
  simp only [k0_pay7, k0_pay5, step]

/-- The twelve doubling steps leave the running sums of the columns. -/
theorem scan (x : Vec Ideal S4096x8 .f32) (t : Fin 4096) (c : Fin 16) :
    k0_pay7 (k0_pay4 x) k0_pay5 (k0_pay6 x) (ix2 t c)
      = BitVec.ofNat 32 (run (column (concatenate S4096x16 1 [⟨S4096x8, extui 32 (k0_pay2 x) natLt_1_32⟩, ⟨S4096x8, extui 32 (k0_pay3 x) natLt_1_32⟩]
          concatenates_S4096x8_S4096x8_S4096x16_d1) c) (t.val + 1)) := by
  rw [← recent_all _ 4096 _ t.isLt]
  unfold k0_pay6
  rw [steps_high, steps_low]
  refine (?_ : Sums _ _ 4096) t c
  iterate 12 refine sums_step _ _ _ rfl _ _ _ _ ?_
  exact sums_one _

end Ker

namespace Ref

open Cert.ReferenceIdeal Cert.ReferenceIdeal.Gen

/-- A fold of word additions is the word of the sum. -/
theorem foldl_add {ι : Type} (l : List ι) (g : ι → BitVec 32) (v : BitVec 32) :
    l.foldl (fun r a => IntOp.addi r (g a)) v = BitVec.ofNat 32 (v.toNat + (l.map fun a => (g a).toNat).sum) := by
  induction l generalizing v with
  | nil => simp
  | cons a l ih =>
    rw [List.foldl_cons, ih, List.map_cons, List.sum_cons, ← add_assoc]
    apply BitVec.eq_of_toNat_eq
    simp [IntOp.addi]

/-- A window's positions are its rows. -/
def windowRow (N : ℕ) : (⟨2, ![N, 1]⟩ : Shape).Idx ≃ Fin N where
  toFun i := i 0
  invFun w := ix2 w 0
  left_inv i := by
    funext a
    fin_cases a
    · rfl
    · exact Subsingleton.elim (α := Fin 1) _ _
  right_inv _ := rfl

/-- A sum over a window's positions in order is the sum over its rows. -/
theorem window_sum (N : ℕ) (g : (⟨2, ![N, 1]⟩ : Shape).Idx → ℕ) :
    ((List.finRange (⟨2, ![N, 1]⟩ : Shape).numel).map fun n => g ((⟨2, ![N, 1]⟩ : Shape).rowMajor.symm n)).sum
      = ∑ w : Fin N, g (ix2 w 0) := by
  rw [← Fin.sum_univ_def, Equiv.sum_comp (⟨2, ![N, 1]⟩ : Shape).rowMajor.symm g]
  exact (Equiv.sum_comp (windowRow N).symm g).symm

/-- A window padded below sums the entries up to its row. -/
theorem window_run (N P : ℕ) (hN : N = P + 1) (f : ℕ → ℕ) (t : ℕ) (ht : t < N) :
    ∑ w : Fin N, (if P ≤ t + w.val then f (t + w.val - P) else 0) = run f (t + 1) := by
  rw [Fin.sum_univ_eq_sum_range (fun w => if P ≤ t + w then f (t + w - P) else 0) N,
    show N = (P - t) + (t + 1) by omega, Finset.sum_range_add,
    Finset.sum_eq_zero fun i hi => if_neg (by have := Finset.mem_range.1 hi; omega), zero_add]
  refine Finset.sum_congr rfl fun i _ => ?_
  rw [if_pos (by omega)]
  congr 1; omega

/-- Windows of a whole column's height, padded below by one less, sum each column up to the row. -/
theorem windows (N P : ℕ) (hN : N = P + 1) (k : IVec ⟨2, ![N, 8]⟩ 32) (init : IVec S_ 32) (hu : 0 < S_.numel)
    (h0 : init (Shape.Idx.first hu) = 0#32)
    (h : (⟨2, ![N, 8]⟩ : Shape).ReduceWindows (![N, 1] : Fin 2 → ℕ) ![1, 1] ![P, 0] ![0, 0] ⟨2, ![N, 8]⟩) (t : Fin N) (e : Fin 8) :
    Host.reduceWindow IntOp.addi ![N, 1] ![1, 1] ![P, 0] ![0, 0] k init h hu (ix2 t e)
      = BitVec.ofNat 32 (run (column k e) (t.val + 1)) := by
  unfold Host.reduceWindow
  rw [foldl_add]
  refine congrArg (BitVec.ofNat 32) ?_
  rw [h0]
  refine (Nat.zero_add _).trans ?_
  refine (window_sum N (fun i => BitVec.toNat (@dite _ (∀ a : Fin 2, (![P, 0] : Fin 2 → ℕ) a ≤ (ix2 t e a).val * (![1, 1] : Fin 2 → ℕ) a + (i a).val
      ∧ (ix2 t e a).val * (![1, 1] : Fin 2 → ℕ) a + (i a).val - (![P, 0] : Fin 2 → ℕ) a < (⟨2, ![N, 8]⟩ : Shape).size a)
      (Nat.decidableForallFin _)
      (fun hin => k (fun a => ⟨(ix2 t e a).val * (![1, 1] : Fin 2 → ℕ) a + (i a).val - (![P, 0] : Fin 2 → ℕ) a, (hin a).2⟩))
      (fun _ => 0#32)))).trans ?_
  refine Eq.trans ?_ (window_run N P hN _ _ t.isLt)
  refine Finset.sum_congr rfl fun w _ => ?_
  by_cases h : P ≤ t.val + w.val
  · rw [if_pos h, dif_pos]
    · unfold column
      rw [dif_pos (by omega)]
      refine congrArg BitVec.toNat (congrArg k ?_)
      funext a
      apply Fin.ext
      fin_cases a
      · show t.val * 1 + w.val - P = t.val + w.val - P
        omega
      · show e.val * 1 + 0 - 0 = e.val
        omega
    · intro a
      fin_cases a
      · show P ≤ t.val * 1 + w.val ∧ t.val * 1 + w.val - P < N
        omega
      · show 0 ≤ e.val * 1 + 0 ∧ e.val * 1 + 0 - 0 < 8
        omega
  · rw [if_neg h, dif_neg]
    · rfl
    · intro hin
      have := (hin 0).1
      change P ≤ t.val * 1 + w.val at this
      omega

/-- The reference's running sums. -/
theorem running_eq (k : IVec S4096x8 32) (t : Fin 4096) (e : Fin 8) :
    running k (ix2 t e) = BitVec.ofNat 32 (run (column k e) (t.val + 1)) :=
  windows 4096 4095 rfl k _ h_S_ rfl reduceWindows_S4096x8_S4096x8_w4096s1p4095_0_w1s1p0_0 t e

end Ref

end Cert.Proof

end
-- ==== Proof.Spec.lean ====
/-
  The routing in plain mathematics: each token's first and second choices, their places in the experts' queues, and the
  slots they end in.
-/
module

public import proofs.«01_k».proof.Proof.Top
public import proofs.«01_k».proof.Proof.Scan
public import Idealize.ShloMosaic.Lib.Routing.BitFacts

@[expose] public section

noncomputable section

namespace Cert.Proof

open Idealize.ShloMosaic

/-- A row with its first largest entry sent to minus infinity. -/
def rest (p : Fin 8 → EReal) (j : Fin 8) : EReal := if IsTop p j then ⊥ else p j

/-- One where a mask marks expert `e` at a token, zero elsewhere. -/
def tally (m : Fin 4096 → Fin 8 → Prop) (e : Fin 8) (s : ℕ) : ℕ :=
  open Classical in if h : s < 4096 then (if m ⟨s, h⟩ e then 1 else 0) else 0

/-- How many tokens up to `t` a mask marks for expert `e`. -/
def count (m : Fin 4096 → Fin 8 → Prop) (t : Fin 4096) (e : Fin 8) : ℕ := run (tally m e) (t.val + 1)

/-- How many tokens a mask marks for expert `e`. -/
def countAll (m : Fin 4096 → Fin 8 → Prop) (e : Fin 8) : ℕ := run (tally m e) 4096

/-- A tally is zero or one. -/
theorem tally_le (m : Fin 4096 → Fin 8 → Prop) (e : Fin 8) (s : ℕ) : tally m e s ≤ 1 := by
  unfold tally; split
  · split <;> omega
  · omega

/-- A running sum of tallies is at most the number of tokens. -/
theorem run_le (m : Fin 4096 → Fin 8 → Prop) (e : Fin 8) (n : ℕ) : run (tally m e) n ≤ n := by
  unfold run
  exact (Finset.sum_le_sum fun s _ => tally_le m e s).trans (by simp)

/-- A marked token is counted. -/
theorem count_pos (m : Fin 4096 → Fin 8 → Prop) (t : Fin 4096) (e : Fin 8) (h : m t e) : 1 ≤ count m t e := by
  unfold count run
  rw [Finset.sum_range_succ]
  have : tally m e t.val = 1 := by
    unfold tally
    rw [dif_pos t.isLt, if_pos h]
  omega

variable (P : Fin 4096 → Fin 8 → EReal)

/-- Token `t`'s first choice is expert `e`. -/
def One (t : Fin 4096) (e : Fin 8) : Prop := IsTop (P t) e

/-- Token `t`'s second choice is expert `e`. -/
def Two (t : Fin 4096) (e : Fin 8) : Prop := IsTop (rest (P t)) e

/-- The place of token `t` among the first choices of expert `e`. -/
def rank1 (t : Fin 4096) (e : Fin 8) : ℕ := count (One P) t e - 1

/-- The place of token `t` among the second choices of expert `e`, after all the first ones. -/
def rank2 (t : Fin 4096) (e : Fin 8) : ℕ := count (Two P) t e - 1 + countAll (One P) e

/-- Token `t`'s first choice is expert `e`, and there is room. -/
def Keep1 (t : Fin 4096) (e : Fin 8) : Prop := One P t e ∧ rank1 P t e < 1024

/-- Token `t`'s second choice is expert `e`, and there is room. -/
def Keep2 (t : Fin 4096) (e : Fin 8) : Prop := Two P t e ∧ rank2 P t e < 1024

noncomputable instance (t : Fin 4096) (e : Fin 8) : Decidable (One P t e) := Classical.dec _
noncomputable instance (t : Fin 4096) (e : Fin 8) : Decidable (Two P t e) := Classical.dec _
noncomputable instance (t : Fin 4096) (e : Fin 8) : Decidable (Keep1 P t e) := Classical.dec _
noncomputable instance (t : Fin 4096) (e : Fin 8) : Decidable (Keep2 P t e) := Classical.dec _

/-- The slot of token `t` at expert `e`; 2048 stands for none. -/
def slot (t : Fin 4096) (e : Fin 8) : ℕ :=
  if Keep1 P t e then rank1 P t e else if Keep2 P t e then rank2 P t e else 2048

/-- The combine weight of token `t` at expert `e` and slot `c`. -/
def entry (t : Fin 4096) (e : Fin 8) (c : Fin 1024) : EReal := if slot P t e = c.val then P t e else 0

/-- The dispatch bit of token `t` at expert `e` and slot `c`: the weight there is not zero. -/
def bit (t : Fin 4096) (e : Fin 8) (c : Fin 1024) : BitVec 1 := open Classical in if entry P t e c ≠ 0 then 1#1 else 0#1

/-- Slots do not pass 2048. -/
theorem slot_le (t : Fin 4096) (e : Fin 8) : slot P t e ≤ 2048 := by
  unfold slot
  split
  · next h => exact (h.2.trans (by omega)).le
  · split
    · next h => exact (h.2.trans (by omega)).le
    · exact le_rfl

/-- Places are small. -/
theorem rank1_lt (t : Fin 4096) (e : Fin 8) : rank1 P t e < 4096 := by
  have := run_le (One P) e (t.val + 1)
  unfold rank1 count; omega

/-- Places are small. -/
theorem rank2_lt (t : Fin 4096) (e : Fin 8) : rank2 P t e < 8192 := by
  have := run_le (Two P) e (t.val + 1)
  have := run_le (One P) e 4096
  unfold rank2 count countAll; omega

/-- Where the probabilities are above minus infinity no expert is both choices of one token. -/
theorem not_both (hP : ∀ t j, ⊥ < P t j) (t : Fin 4096) (e : Fin 8) (h1 : One P t e) (h2 : Two P t e) : False := by
  obtain ⟨j, hj⟩ : ∃ j : Fin 8, j ≠ e := exists_ne e
  have hr : rest (P t) e = ⊥ := if_pos h1
  have hrj : rest (P t) j = P t j := if_neg fun h => hj (h.unique h1)
  have := h2.1 j
  rw [hr, hrj] at this
  exact absurd (hP t j) (not_lt.2 this)

/-- The word of the place of a token marked first. -/
theorem word_rank1 (t : Fin 4096) (e : Fin 8) (h : One P t e) :
    IntOp.subi (BitVec.ofNat 32 (count (One P) t e)) 1#32 = BitVec.ofNat 32 (rank1 P t e) :=
  Routing.ofNat32_sub (count_pos _ t e h)

/-- The word of the place of a token marked second. -/
theorem word_rank2 (t : Fin 4096) (e : Fin 8) (h : Two P t e) :
    IntOp.addi (IntOp.subi (BitVec.ofNat 32 (count (Two P) t e)) 1#32) (BitVec.ofNat 32 (countAll (One P) e))
      = BitVec.ofNat 32 (rank2 P t e) := by
  rw [show IntOp.subi (BitVec.ofNat 32 (count (Two P) t e)) 1#32 = BitVec.ofNat 32 (count (Two P) t e - 1) from
    Routing.ofNat32_sub (count_pos _ t e h), word_add]
  rfl

/-- The bit of a comparison with the capacity. -/
theorem bit_room (n : ℕ) (h : n < 2 ^ 31) : IntOp.cmpi .slt (BitVec.ofNat 32 n) 1024#32 = if n < 1024 then 1#1 else 0#1 := by
  show BitVec.ofBool ((BitVec.ofNat 32 n).slt (BitVec.ofNat 32 1024)) = _
  rw [Routing.slt_ofNat32 h (by omega)]
  by_cases c : n < 1024
  · rw [if_pos c, decide_eq_true c]; rfl
  · rw [if_neg c, decide_eq_false c]; rfl

/-- The columns of a table of indicators are tallies. -/
theorem column_tally {n : ℕ} (v : IVec ⟨2, ![4096, n]⟩ 32) (c : Fin n) (m : Fin 4096 → Fin 8 → Prop) (e : Fin 8)
    (h : ∀ s, (m s e → v (ix2 s c) = 1#32) ∧ (¬ m s e → v (ix2 s c) = 0#32)) : column v c = tally m e := by
  funext s
  unfold column tally
  by_cases hs : s < 4096
  · rw [dif_pos hs, dif_pos hs]
    by_cases hm : m ⟨s, hs⟩ e
    · rw [if_pos hm, (h _).1 hm]; rfl
    · rw [if_neg hm, (h _).2 hm]; rfl
  · rw [dif_neg hs, dif_neg hs]

end Cert.Proof

end
-- ==== Proof.Route.lean ====
/-
  What the routing block leaves in the packed table: the slot's quotient and remainder by 64, and the probability.
-/
module

public import proofs.«01_k».proof.Proof.Spec

@[expose] public section

set_option maxRecDepth 16384

noncomputable section

namespace Cert.Proof.Ker

open Idealize.ShloMosaic Cert.KernelIdeal Cert.KernelIdeal.Gen

/-- The block's probabilities, row by row. -/
def prob (x : Vec Ideal S4096x8 .f32) (t : Fin 4096) (e : Fin 8) : EReal := k0_pay1 x (ix2 t e)

/-- The block's first mask marks the first choices. -/
theorem mask_one (x : Vec Ideal S4096x8 .f32) (t : Fin 4096) (e : Fin 8) :
    k0_pay2 x (ix2 t e) = if One (prob x) t e then 1#1 else 0#1 := by
  unfold k0_pay2
  pointwise
  refine (leastIndex (prob x t) e).trans ?_
  exact if_congr Iff.rfl rfl rfl

/-- The block's second mask marks the second choices. -/
theorem mask_two (x : Vec Ideal S4096x8 .f32) (t : Fin 4096) (e : Fin 8) :
    k0_pay3 x (ix2 t e) = if Two (prob x) t e then 1#1 else 0#1 := by
  have hr : (fun j => Scalar.select (k0_pay2 x (ix2 t j)) (Ideal.ofBits .f32 4286578688#32) (k0_pay1 x (ix2 t j)) : Fin 8 → EReal)
      = rest (prob x t) := by
    funext j
    rw [mask_one]
    unfold rest
    by_cases h : IsTop (prob x t) j
    · rw [if_pos h, if_pos (show One (prob x) t j from h)]
      exact neg_inf
    · rw [if_neg h, if_neg (show ¬ One (prob x) t j from h)]
      rfl
  unfold k0_pay3
  pointwise
  refine Eq.trans ?_ ((leastIndex (rest (prob x t)) e).trans (if_congr Iff.rfl rfl rfl))
  rw [← hr]

/-- The running sums' first eight columns count the first choices. -/
theorem scan_one (x : Vec Ideal S4096x8 .f32) (t : Fin 4096) (e : Fin 8) :
    k0_pay8 (k0_pay4 x) k0_pay5 (k0_pay6 x) (ix2 t e) = BitVec.ofNat 32 (count (One (prob x)) t e) := by
  unfold k0_pay8
  pointwise
  rw [scan]
  unfold count
  rw [column_tally _ _ (One (prob x)) e fun s => ?_]
  pointwise
  rw [mask_one]
  exact ⟨fun h => by rw [if_pos h]; rfl, fun h => by rw [if_neg h]; rfl⟩

/-- Their other eight count the second choices. -/
theorem scan_two (x : Vec Ideal S4096x8 .f32) (t : Fin 4096) (e : Fin 8) (h) :
    k0_pay7 (k0_pay4 x) k0_pay5 (k0_pay6 x) (ix2 t ⟨8 + e.val, h⟩) = BitVec.ofNat 32 (count (Two (prob x)) t e) := by
  rw [scan]
  unfold count
  rw [column_tally _ _ (Two (prob x)) e fun s => ?_]
  pointwise
  rw [mask_two]
  exact ⟨fun h => by rw [if_pos h]; rfl, fun h => by rw [if_neg h]; rfl⟩

/-- The places among the first choices. -/
theorem place_one (x : Vec Ideal S4096x8 .f32) (t : Fin 4096) (e : Fin 8) :
    k0_pay9 (k0_pay4 x) k0_pay5 (k0_pay6 x) (ix2 t e)
      = IntOp.subi (BitVec.ofNat 32 (count (One (prob x)) t e)) 1#32 := by
  rw [← scan_one]
  unfold k0_pay9
  pointwise

/-- The places among the second choices. -/
theorem place_two (x : Vec Ideal S4096x8 .f32) (t : Fin 4096) (e : Fin 8) :
    k0_pay10 (k0_pay4 x) k0_pay5 (k0_pay6 x) (ix2 t e)
      = IntOp.addi (IntOp.subi (BitVec.ofNat 32 (count (Two (prob x)) t e)) 1#32) (BitVec.ofNat 32 (countAll (One (prob x)) e)) := by
  have h1 : BitVec.ofNat 32 (countAll (One (prob x)) e) = k0_pay8 (k0_pay4 x) k0_pay5 (k0_pay6 x) (ix2 4095 e) := by
    rw [scan_one]; rfl
  rw [h1]
  unfold k0_pay10
  pointwise
  rw [scan_two]

/-- A slot's flooring quotient by 64 in words. -/
theorem floorWord_slot : ∀ n : Fin 2049, floorWord 64#32 (BitVec.ofNat 32 n.val) = BitVec.ofNat 32 (n.val / 64) := by
  decide +kernel

/-- The slot word from the two mask bits and the two places. -/
def slotWord (a b : BitVec 1) (r1 r2 : BitVec 32) : BitVec 32 :=
  Scalar.select (IntOp.andi a (IntOp.cmpi .slt r1 1024#32)) r1
    (Scalar.select (IntOp.andi b (IntOp.cmpi .slt r2 1024#32)) r2 2048#32)

section
variable (v9 : FVec Ideal S4096x8 .f32) (v20 v32 : IVec S4096x8 1) (v86 v92 : IVec S4096x8 32) (t : Fin 4096) (e : Fin 8)

/-- The table's first column group: the slot's quotients. -/
theorem table0 (h) : k0_pay12 v9 v20 v32 v86 v92 k0_pay11 (ix2 t ⟨8 * 0 + e.val, h⟩)
    = FloatOps.sitofp .f32 (floorWord 64#32 (slotWord (v20 (ix2 t e)) (v32 (ix2 t e)) (v86 (ix2 t e)) (v92 (ix2 t e)))) := by
  unfold k0_pay12 k0_pay11
  pointwise
  unfold floorWord slotWord
  with_reducible rfl

/-- Its second: the slot's remainders. -/
theorem table1 (h) : k0_pay12 v9 v20 v32 v86 v92 k0_pay11 (ix2 t ⟨8 * 1 + e.val, h⟩)
    = FloatOps.sitofp .f32 (IntOp.subi (slotWord (v20 (ix2 t e)) (v32 (ix2 t e)) (v86 (ix2 t e)) (v92 (ix2 t e)))
      (IntOp.muli (floorWord 64#32 (slotWord (v20 (ix2 t e)) (v32 (ix2 t e)) (v86 (ix2 t e)) (v92 (ix2 t e)))) 64#32)) := by
  unfold k0_pay12 k0_pay11
  pointwise
  unfold floorWord slotWord
  with_reducible rfl

/-- Its third: the probabilities. -/
theorem table2 (h) : k0_pay12 v9 v20 v32 v86 v92 k0_pay11 (ix2 t ⟨8 * 2 + e.val, h⟩) = v9 (ix2 t e) := by
  unfold k0_pay12 k0_pay11
  pointwise
  rw [dif_neg (by omega), dif_neg (by omega), dif_pos (by omega)]
  simp only [show ∀ h, (⟨16 + e.val - 8 - 8, h⟩ : Fin 8) = e from fun _ => Fin.ext (by show 16 + e.val - 8 - 8 = e.val; omega)]

/-- Its fourth: what the first rounding of the probabilities loses. -/
theorem table3 (h) : k0_pay12 v9 v20 v32 v86 v92 k0_pay11 (ix2 t ⟨8 * 3 + e.val, h⟩)
    = (v9 (ix2 t e) : EReal) - v9 (ix2 t e) := by
  unfold k0_pay12 k0_pay11
  pointwise
  rw [dif_neg (by omega), dif_neg (by omega), dif_neg (by omega), dif_pos (by omega)]
  simp only [show ∀ h, (⟨24 + e.val - 8 - 8 - 8, h⟩ : Fin 8) = e from fun _ => Fin.ext (by show 24 + e.val - 8 - 8 - 8 = e.val; omega)]

/-- Its fifth: what the second rounding loses. -/
theorem table4 (h) : k0_pay12 v9 v20 v32 v86 v92 k0_pay11 (ix2 t ⟨8 * 4 + e.val, h⟩)
    = ((v9 (ix2 t e) : EReal) - v9 (ix2 t e)) - ((v9 (ix2 t e) : EReal) - v9 (ix2 t e)) := by
  unfold k0_pay12 k0_pay11
  pointwise
  rw [dif_neg (by omega), dif_neg (by omega), dif_neg (by omega), dif_neg (by omega)]
  simp only [show ∀ h, (⟨32 + e.val - 8 - 8 - 8 - 8, h⟩ : Fin 8) = e from fun _ => Fin.ext (by show 32 + e.val - 8 - 8 - 8 - 8 = e.val; omega)]
end

/-- The block stores the table of its masks and places. -/
theorem out_eq (x : Vec Ideal S4096x8 .f32) (t : Fin 4096) (l : Fin 40) :
    out0_1 x (ix2 t l) = k0_pay12 (k0_pay1 x) (k0_pay2 x) (k0_pay3 x) (k0_pay9 (k0_pay4 x) k0_pay5 (k0_pay6 x))
      (k0_pay10 (k0_pay4 x) k0_pay5 (k0_pay6 x)) k0_pay11 (ix2 t l) := by
  frame_out
  unfold k0_pay13 k0_pay14 k0_pay15
  rw [show View.ld x r0_0 = x from by
    funext y
    idx_vars y
    pointwise]

/-- The slot word is the slot's. -/
theorem slotWord_eq (x : Vec Ideal S4096x8 .f32) (t : Fin 4096) (e : Fin 8) :
    slotWord (k0_pay2 x (ix2 t e)) (k0_pay3 x (ix2 t e)) (k0_pay9 (k0_pay4 x) k0_pay5 (k0_pay6 x) (ix2 t e))
      (k0_pay10 (k0_pay4 x) k0_pay5 (k0_pay6 x) (ix2 t e)) = BitVec.ofNat 32 (slot (prob x) t e) := by
  have key1 : IntOp.andi (k0_pay2 x (ix2 t e)) (IntOp.cmpi .slt (k0_pay9 (k0_pay4 x) k0_pay5 (k0_pay6 x) (ix2 t e)) 1024#32)
      = if Keep1 (prob x) t e then 1#1 else 0#1 := by
    rw [mask_one, place_one]
    by_cases h : One (prob x) t e
    · rw [word_rank1 _ t e h, bit_room _ (by have := rank1_lt (prob x) t e; omega), if_pos h]
      by_cases c : rank1 (prob x) t e < 1024
      · rw [if_pos c, if_pos (show Keep1 _ t e from ⟨h, c⟩)]; rfl
      · rw [if_neg c, if_neg (show ¬ Keep1 _ t e from fun k => c k.2)]; rfl
    · rw [if_neg h, if_neg (show ¬ Keep1 _ t e from fun k => h k.1)]
      exact BitVec.zero_and
  have key2 : IntOp.andi (k0_pay3 x (ix2 t e)) (IntOp.cmpi .slt (k0_pay10 (k0_pay4 x) k0_pay5 (k0_pay6 x) (ix2 t e)) 1024#32)
      = if Keep2 (prob x) t e then 1#1 else 0#1 := by
    rw [mask_two, place_two]
    by_cases h : Two (prob x) t e
    · rw [word_rank2 _ t e h, bit_room _ (by have := rank2_lt (prob x) t e; omega), if_pos h]
      by_cases c : rank2 (prob x) t e < 1024
      · rw [if_pos c, if_pos (show Keep2 _ t e from ⟨h, c⟩)]; rfl
      · rw [if_neg c, if_neg (show ¬ Keep2 _ t e from fun k => c k.2)]; rfl
    · rw [if_neg h, if_neg (show ¬ Keep2 _ t e from fun k => h k.1)]
      exact BitVec.zero_and
  unfold slotWord slot
  rw [key1, key2]
  by_cases k1 : Keep1 (prob x) t e
  · rw [if_pos k1, if_pos k1, place_one, word_rank1 _ t e k1.1]; rfl
  · rw [if_neg k1, if_neg k1]
    by_cases k2 : Keep2 (prob x) t e
    · rw [if_pos k2, if_pos k2, place_two, word_rank2 _ t e k2.1]; rfl
    · rw [if_neg k2, if_neg k2]; rfl

/-- A small number's word read as a number. -/
theorem number (n : ℕ) (h : n < 2 ^ 31) : (FloatOps.sitofp (F := Ideal) FTy.f32 (BitVec.ofNat 32 n) : EReal) = ((n : ℝ) : EReal) := by
  show ((((BitVec.ofNat 32 n).toInt : ℤ) : ℝ) : EReal) = _
  have : (BitVec.ofNat 32 n).toInt = n := by
    rw [BitVec.toInt_eq_toNat_of_lt (by rw [BitVec.toNat_ofNat]; omega), BitVec.toNat_ofNat]
    omega
  rw [this]; norm_cast

/-- The packed quotient. -/
theorem out_quot (x : Vec Ideal S4096x8 .f32) (t : Fin 4096) (e : Fin 8) (h) :
    (out0_1 x (ix2 t ⟨8 * 0 + e.val, h⟩) : EReal) = (((slot (prob x) t e / 64 : ℕ) : ℝ) : EReal) := by
  have hs := slot_le (prob x) t e
  rw [out_eq, table0, slotWord_eq, floorWord_slot ⟨_, Nat.lt_succ_of_le hs⟩]
  exact number _ (by simp only; omega)

/-- The packed remainder. -/
theorem out_rem (x : Vec Ideal S4096x8 .f32) (t : Fin 4096) (e : Fin 8) (h) :
    (out0_1 x (ix2 t ⟨8 * 1 + e.val, h⟩) : EReal) = (((slot (prob x) t e % 64 : ℕ) : ℝ) : EReal) := by
  have hs := slot_le (prob x) t e
  rw [out_eq, table1, slotWord_eq, floorWord_slot ⟨_, Nat.lt_succ_of_le hs⟩]
  have : IntOp.subi (BitVec.ofNat 32 (slot (prob x) t e)) (IntOp.muli (BitVec.ofNat 32 (slot (prob x) t e / 64)) 64#32)
      = BitVec.ofNat 32 (slot (prob x) t e % 64) := by
    show BitVec.ofNat 32 _ - BitVec.ofNat 32 _ * BitVec.ofNat 32 64 = _
    rw [← BitVec.ofNat_mul, Routing.ofNat32_sub (by omega)]
    congr 1; omega
  simp only []
  rw [this]
  exact number _ (by omega)

/-- The packed probability. -/
theorem out_prob (x : Vec Ideal S4096x8 .f32) (t : Fin 4096) (e : Fin 8) (h) :
    (out0_1 x (ix2 t ⟨8 * 2 + e.val, h⟩) : EReal) = prob x t e := by
  rw [out_eq, table2]; rfl

/-- Nothing is lost in packing a real probability. -/
theorem out_lost (x : Vec Ideal S4096x8 .f32) (t : Fin 4096) (e : Fin 8) (r : ℝ) (hr : prob x t e = (r : EReal)) (h) :
    (out0_1 x (ix2 t ⟨8 * 3 + e.val, h⟩) : EReal) = 0 := by
  rw [out_eq, table3, show k0_pay1 x (ix2 t e) = (r : EReal) from hr, ← EReal.coe_sub, sub_self, EReal.coe_zero]

/-- Nor in packing what is lost. -/
theorem out_lost2 (x : Vec Ideal S4096x8 .f32) (t : Fin 4096) (e : Fin 8) (r : ℝ) (hr : prob x t e = (r : EReal)) (h) :
    (out0_1 x (ix2 t ⟨8 * 4 + e.val, h⟩) : EReal) = 0 := by
  rw [out_eq, table4, show k0_pay1 x (ix2 t e) = (r : EReal) from hr, ← EReal.coe_sub, sub_self, EReal.coe_zero, sub_zero]

end Cert.Proof.Ker

end
-- ==== Proof.Finite.lean ====
/-
  What the precondition gives: every row's largest logit is a real number, so the softmax of every row is one.
-/
module

public import proofs.«01_k».proof.Proof.Route
public import proofs.«01_k».proof.Pre_rows_have_a_finite_maximum

@[expose] public section

set_option maxRecDepth 16384

noncomputable section

namespace Cert.Proof

open Idealize.ShloMosaic Cert.Pre_rows_have_a_finite_maximum

/-- The shape relations the precondition's text takes. -/
theorem preFacts : Cert.Pre_rows_have_a_finite_maximum.Facts where
  reducesTo_S4096x8_S4096_d1 := by decide
  h_S_ := by decide
  bcast_S_S4096 := by decide
  reducesTo_S4096_S_d0 := by decide

/-- A conjunction of bits that is one has every bit one. -/
theorem all_one {n : ℕ} (f : Fin n → BitVec 1) (S : Finset (Fin n)) (h : Finset.fold IntOp.andi 1#1 f S = 1#1) :
    ∀ j ∈ S, f j = 1#1 := by
  induction S using Finset.cons_induction with
  | empty => intro j hj; simp at hj
  | cons a S ha ih =>
    rw [Finset.fold_cons] at h
    have key : ∀ a b : BitVec 1, IntOp.andi a b = 1#1 → a = 1#1 ∧ b = 1#1 := by decide
    obtain ⟨h1, h2⟩ := key _ _ h
    intro j hj
    rcases Finset.mem_cons.1 hj with e | e
    · rw [e]; exact h1
    · exact ih h2 j e

/-- The pattern of plus infinity. -/
theorem pos_inf : Ideal.ofBits .f32 0x7F800000#32 = ⊤ := by simp [Ideal.ofBits, Ideal.ieee]

/-- Under the precondition every row's largest logit is a real number. -/
theorem pre_max (x : FVec Ideal S4096x8 .f32) (h : (letI := preFacts; fn (F := Ideal) x) = fun _ => 1#1) (t : Fin 4096) :
    ∃ M : ℝ, Finset.fold max (Ideal.ofBits .f32 0xFF800000#32) (fun j => (x (ix2 t j) : EReal)) Finset.univ = (M : EReal) := by
  letI := preFacts
  have h0 : fn (F := Ideal) x ix0 = 1#1 := congrFun h ix0
  have h1 : Finset.fold IntOp.andi 1#1 (fun t : Fin 4096 => BitVec.ofBool (decide
      ((FloatOps.absf (F := Ideal) (φ := .f32) (Finset.fold max (Ideal.ofBits .f32 0xFF800000#32) (fun j => (x (ix2 t j) : EReal))
        Finset.univ) : EReal) < Ideal.ofBits .f32 0x7F800000#32))) Finset.univ = 1#1 := by
    refine Eq.trans ?_ h0
    unfold fn
    pointwise
  have h2 := all_one _ _ h1 t (Finset.mem_univ t)
  generalize Finset.fold max (Ideal.ofBits .f32 0xFF800000#32) (fun j => (x (ix2 t j) : EReal)) Finset.univ = M at h2
  rw [pos_inf] at h2
  have h3 : max M (-M) < (⊤ : EReal) := by
    by_contra hn
    have h4 : BitVec.ofBool (decide (max M (-M) < (⊤ : EReal))) = 1#1 := h2
    rw [decide_eq_false hn] at h4
    exact absurd h4 (by decide)
  induction M using EReal.rec with
  | bot => simp at h3
  | top => simp at h3
  | coe r => exact ⟨r, rfl⟩

/-- The softmax of a row whose largest entry is a real number is a row of real numbers. -/
theorem softmax_real (p : Fin 8 → EReal) (M : ℝ) (hle : ∀ j, p j ≤ (M : EReal)) (hex : ∃ j, p j = (M : EReal)) (e : Fin 8) :
    ∃ r : ℝ, Ideal.div (Ideal.exp (p e - M)) (∑ j, Ideal.exp (p j - M)) = (r : EReal) := by
  have hg : ∀ j, ∃ g : ℝ, Ideal.exp (p j - M) = (g : EReal) ∧ 0 ≤ g ∧ (p j = (M : EReal) → g = 1) := fun j => by
    have hj := hle j
    generalize p j = y at hj
    induction y using EReal.rec with
    | bot => exact ⟨0, by rw [EReal.bot_sub, Ideal.exp_bot, EReal.coe_zero], le_rfl, fun h => absurd h (EReal.bot_ne_coe M)⟩
    | top => exact absurd hj (not_le.2 (EReal.coe_lt_top M))
    | coe r =>
      refine ⟨Real.exp (r - M), by rw [← EReal.coe_sub, Ideal.exp_coe], (Real.exp_pos _).le, fun h => ?_⟩
      rw [EReal.coe_eq_coe_iff.1 h, sub_self, Real.exp_zero]
  choose g hg0 hg1 hg2 using hg
  have hs : ∀ S : Finset (Fin 8), ∑ j ∈ S, Ideal.exp (p j - M) = ((∑ j ∈ S, g j : ℝ) : EReal) := fun S => by
    induction S using Finset.cons_induction with
    | empty => rw [Finset.sum_empty, Finset.sum_empty, EReal.coe_zero]
    | cons a S ha ih => rw [Finset.sum_cons, Finset.sum_cons, ih, hg0, ← EReal.coe_add]
  obtain ⟨j, hj⟩ := hex
  have hpos : (∑ j, g j) ≠ 0 := by
    have := Finset.single_le_sum (f := g) (fun i _ => hg1 i) (Finset.mem_univ j)
    rw [hg2 j hj] at this
    linarith
  rw [hs, hg0, Ideal.div_coe hpos, ← EReal.coe_mul]
  exact ⟨_, rfl⟩

/-- Under the precondition the probabilities are real numbers. -/
theorem prob_real (x : FVec Ideal S4096x8 .f32) (h : (letI := preFacts; fn (F := Ideal) x) = fun _ => 1#1) (t : Fin 4096) (e : Fin 8) :
    ∃ r : ℝ, Ker.prob x t e = (r : EReal) := by
  obtain ⟨M, hM⟩ := pre_max x h t
  obtain ⟨hle, hex⟩ := rowFold_spec fun j => (x (ix2 t j) : EReal)
  rw [hM] at hle hex
  obtain ⟨r, hr⟩ := softmax_real (fun j => (x (ix2 t j) : EReal)) M hle hex e
  refine ⟨r, Eq.trans ?_ hr⟩
  rw [← hM]
  unfold Ker.prob Cert.KernelIdeal.Gen.k0_pay1
  pointwise

end Cert.Proof

end
-- ==== Proof.KerRun.lean ====
/-
  The kernel's run: what its two results hold, as functions of the two arrays its kernels leave.
-/
module

public import proofs.«01_k».proof.Defs
public import proofs.«01_k».proof.Proof.Gen.KernelIdeal
public import proofs.«01_k».proof.Proof.Gen.KernelIdeal.Frame
public import Idealize.ShloMosaic.Lib.StableHlo.RunRead
public import Idealize.ShloMosaic.PureOps.Ideal

@[expose] public section

noncomputable section

namespace Cert.Proof.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.StableHlo (TRef)

/-- The slot word of each token and expert: 64 times the first column group plus the second, as an integer. -/
def word (q : FVec Ideal S4096x40 .f32) : IVec S4096x8 32 :=
  fptosi 32 (addf
    (mulf (extractStridedSlice S4096x8 ![0, 0] q slices_S4096x40_S4096x8_0_0)
      (broadcastInDim S4096x8 ![] bcast_S_S4096x8 (constant S_ .f32 0x42800000#32)))
    (extractStridedSlice S4096x8 ![0, 8] q slices_S4096x40_S4096x8_0_8))

/-- The weight of each token and expert: the last three column groups added. -/
def total (q : FVec Ideal S4096x40 .f32) : FVec Ideal S4096x8 .f32 :=
  addf (addf (extractStridedSlice S4096x8 ![0, 16] q slices_S4096x40_S4096x8_0_16)
      (extractStridedSlice S4096x8 ![0, 24] q slices_S4096x40_S4096x8_0_24))
    (extractStridedSlice S4096x8 ![0, 32] q slices_S4096x40_S4096x8_0_32)

/-- The slot word where the weight is not zero, minus one elsewhere. -/
def taken (q : FVec Ideal S4096x40 .f32) : IVec S4096x8 32 :=
  select (cmpf .une (total q) (broadcastInDim S4096x8 ![] bcast_S_S4096x8 (constant S_ .f32 0x00000000#32)))
    (word q) (broadcastInDim S4096x8 ![] bcast_S_S4096x8 (id (constantI S_ 32 4294967295#32)))

/-- The second result from the packed table: which slot each taken word names. -/
def mask (q : FVec Ideal S4096x40 .f32) : IVec S4096x8x1024 1 :=
  cmpi .eq
    (broadcastInDim S4096x8x1024 ![0, 1, 2] bcast_S4096x8x1_S4096x8x1024_0_1_2
      (broadcastInDim S4096x8x1 ![0, 1] bcast_S4096x8_S4096x8x1_0_1 (taken q)))
    (broadcastInDim S4096x8x1024 ![0, 1, 2] bcast_S1x1x1024_S4096x8x1024_0_1_2
      (broadcastInDim S1x1x1024 ![2] bcast_S1024_S1x1x1024_2 (iotaInDim S1024 32 0)))

/-- What the closing host operations leave in the second result. -/
theorem after_mask (V : Valuation τ sig (Elt Ideal)) :
    StableHlo.after hostOps2_2 (StableHlo.after hostOps2_1 (StableHlo.after hostOps2 V)) (Proc.devRef .tc main_v21)
      = mask (V (Proc.devRef .tc main_v0)) := by
  after_reads_simp
  simp -implicitDefEqProofs only [TRef.toBuf, TRef.ofBuf, cast_cast, cast_eq]
  unfold mask taken total word
  with_reducible rfl

/-- What the closing host operations leave in the first result. -/
theorem after_combine (V : Valuation τ sig (Elt Ideal)) :
    StableHlo.after hostOps2_2 (StableHlo.after hostOps2_1 (StableHlo.after hostOps2 V)) (Proc.devRef .tc main_v22)
      = shapeCast S4096x8x1024 (V (Proc.devRef .tc main_v1)) shapeCasts_S32768x1024_S4096x8x1024 := by
  after_reads_simp
  rfl

variable (m : (ℓ : Loc nD τ sig) → Buf (Elt Ideal) ℓ) (ρ : Dev nD → PrngReg)

/-- At the end the second result is `mask` of the packed table. -/
theorem at_mask (c : Dev nD) : W5 m ρ c (Proc.devRef .tc main_v21) = mask (W2 m ρ c (Proc.devRef .tc main_v0)) :=
  after_mask _

/-- At the end the first result is the expanded array read in three dimensions. -/
theorem at_combine (c : Dev nD) : W5 m ρ c (Proc.devRef .tc main_v22)
    = shapeCast S4096x8x1024 (W2 m ρ c (Proc.devRef .tc main_v1)) shapeCasts_S32768x1024_S4096x8x1024 :=
  after_combine _

set_option backward.isDefEq.respectTransparency.types false in
/-- From any memory the kernel terminates; its results hold what the last stretch of host operations leaves, and the
    logits are unchanged. -/
theorem run : θ_run (defs (F := Ideal)) (onTc (τ := τ) (main (F := Ideal))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_v21) = W5 m ρ c (Proc.devRef .tc main_v21)
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v22 (by decide)), h c _ (mem_uc main_v21 (by decide)),
      (h c _ (mem_uc main_arg0 (by decide))).trans (W5_main_arg0 m ρ c)⟩)

end Cert.Proof.Ker

end
-- ==== Proof.KerArr.lean ====
/-
  What the two arrays hold after the kernels: the packed table, and the expanded rows read off it.
-/
module

public import proofs.«01_k».proof.Proof.KerRun
public import proofs.«01_k».proof.Proof.Expand

@[expose] public section

set_option maxRecDepth 16384

noncomputable section

namespace Cert.Proof.Ker

open Idealize.ShloMosaic Idealize.ShloMosaic.TcCoe Cert.KernelIdeal Cert.KernelIdeal.Gen

/-- The expanded rows of a packed table: row `8 t + e` holds token `t`'s weight for expert `e` in the column its slot word
    names, zero elsewhere. -/
def wide (q : Vec Ideal S4096x40 .f32) : Vec Ideal S32768x1024 .f32 := fun j =>
  if BitVec.ofNat 32 (j 1).val = blockWord (q (ix2 ⟨(j 0).val / 8, by have := (j 0).isLt; simp at this; omega⟩ ⟨8 * 0 + (j 0).val % 8, by omega⟩))
      (q (ix2 ⟨(j 0).val / 8, by have := (j 0).isLt; simp at this; omega⟩ ⟨8 * 1 + (j 0).val % 8, by omega⟩))
  then (q (ix2 ⟨(j 0).val / 8, by have := (j 0).isLt; simp at this; omega⟩ ⟨8 * 2 + (j 0).val % 8, by omega⟩) : EReal)
    + q (ix2 ⟨(j 0).val / 8, by have := (j 0).isLt; simp at this; omega⟩ ⟨8 * 3 + (j 0).val % 8, by omega⟩)
    + q (ix2 ⟨(j 0).val / 8, by have := (j 0).isLt; simp at this; omega⟩ ⟨8 * 4 + (j 0).val % 8, by omega⟩)
  else 0

variable (V : (c : Dev nD) → (b : Ref sig .tc) → Buf (Elt Ideal) ((c : Thread nD τ).loc b)) (c : Dev nD)

/-- Point `t` of the second grid writes row block `t`. -/
theorem idx1_1 : ∀ t : Fin cfg1.N, win1_1.index t 0 = t.val ∧ win1_1.index t 1 = 0 := by decide +kernel

/-- Point `t` of the second grid reads row block `t`. -/
theorem idx1_0 : ∀ t : Fin cfg1.N, win1_0.index t 0 = t.val ∧ win1_0.index t 1 = 0 := by decide +kernel

/-- The first grid's point writes the whole table. -/
theorem idx0_1 : ∀ t : Fin cfg0.N, win0_1.index t 0 = 0 ∧ win0_1.index t 1 = 0 := by decide +kernel

/-- The first grid's point reads the whole input. -/
theorem idx0_0 : ∀ t : Fin cfg0.N, win0_0.index t 0 = 0 ∧ win0_0.index t 1 = 0 := by decide +kernel

/-- Where entry `(r, l)` of block `t` lies in the expanded array. -/
theorem emb1 (t : Fin cfg1.N) (r : Fin 2048) (l : Fin 1024) :
    ((win1_1.blk t).view.emb (ix2 r l)) = ix2 ⟨2048 * t.val + r.val, by have := t.isLt; have : cfg1.N = 16 := rfl; omega⟩ l := by
  funext a
  apply Fin.ext
  fin_cases a
  · blk_simp
    rw [(idx1_1 t).1]
    show t.val * 2048 + r.val = 2048 * t.val + r.val
    omega
  · blk_simp
    rw [(idx1_1 t).2]
    show 0 * 1024 + l.val = l.val
    omega

/-- What point `t` of the second grid reads at `(r, l)`. -/
theorem blk1 (t : Fin cfg1.N) (r : Fin 256) (l : Fin 40) :
    iblk1 V c 0 t (ix2 r l) = V c main_v0 (ix2 ⟨256 * t.val + r.val, by have := t.isLt; have : cfg1.N = 16 := rfl; omega⟩ l) := by
  unfold iblk1
  blk_simp
  congr 1
  funext a
  apply Fin.ext
  fin_cases a
  · blk_simp
    rw [(idx1_0 t).1]
    show t.val * 256 + r.val = 256 * t.val + r.val
    omega
  · blk_simp
    rw [(idx1_0 t).2]
    show 0 * 40 + l.val = l.val
    omega

/-- The first grid's input block is the array itself. -/
theorem emb0_0 (t : Fin cfg0.N) (y)  :
    ((win0_0.blk t).view.emb y) = y := by
  funext a
  apply Fin.ext
  fin_cases a
  · blk_simp
    rw [(idx0_0 t).1]; omega
  · blk_simp
    rw [(idx0_0 t).2]; omega

/-- What the first grid's point reads: the logits. -/
theorem blk0 (t : Fin cfg0.N) : iblk0 V c 0 t = V c main_arg0 := by
  funext y
  unfold iblk0
  blk_simp
  exact congrArg _ (emb0_0 t y)

/-- The first grid's output block is the array itself. -/
theorem emb0 (t : Fin cfg0.N) (y)  :
    ((win0_1.blk t).view.emb y) = y := by
  funext a
  apply Fin.ext
  fin_cases a
  · blk_simp
    rw [(idx0_1 t).1]; omega
  · blk_simp
    rw [(idx0_1 t).2]; omega

/-- The expanding kernel leaves `wide` of the packed table it finds. -/
theorem expanded : (dat1 V c).arrAt 1 cfg1.N = wide (V c main_v0) := by
  refine (dat1 V c).arrAt_eq_of_covers 1 _ (by decide +kernel) fun t hf y => ?_
  blk_simp
  rw [after1_1]
  idx_vars y
  refine (block _ y0 y1).trans ?_
  have he := emb1 t y0 y1
  refine Eq.trans ?_ (congrArg (wide (V c main_v0)) he.symm)
  simp only [blk1]
  unfold wide
  have h1 : (2048 * t.val + y0.val) / 8 = 256 * t.val + y0.val / 8 := by omega
  have h2 : (2048 * t.val + y0.val) % 8 = y0.val % 8 := by omega
  simp only [ix2_0, ix2_1, h1, h2]

/-- The routing kernel leaves its block's value at the logits it finds. -/
theorem packed : (dat0 V c).arrAt 1 cfg0.N = out0_1 (F := Ideal) (V c main_arg0) := by
  refine (dat0 V c).arrAt_eq_of_covers 1 _ (by decide +kernel) fun t hf y => ?_
  blk_simp
  rw [after0_1, blk0]
  exact congrArg _ (emb0 t y).symm

variable (m : (ℓ : Loc nD τ sig) → Buf (Elt Ideal) ℓ) (ρ : Dev nD → PrngReg)

/-- After the first kernel the first array holds the routing block's value at the logits. -/
theorem at_table1 : W1 m ρ c (Proc.devRef .tc main_v0) = out0_1 (F := Ideal) (m ((c : Thread nD τ).loc main_arg0)) :=
  (W1_arr m ρ c 1).trans (packed (V0 m ρ) c)

/-- The second kernel leaves it so. -/
theorem at_table : W2 m ρ c (Proc.devRef .tc main_v0) = out0_1 (F := Ideal) (m ((c : Thread nD τ).loc main_arg0)) :=
  (W2_of m ρ c main_v0 (by decide +kernel)).trans (at_table1 c m ρ)

/-- And the second array holds the rows expanded from it. -/
theorem at_rows : W2 m ρ c (Proc.devRef .tc main_v1) = wide (out0_1 (F := Ideal) (m ((c : Thread nD τ).loc main_arg0))) :=
  (W2_arr m ρ c 1).trans ((expanded (V1 m ρ) c).trans (congrArg wide (at_table1 c m ρ)))

end Cert.Proof.Ker

end
-- ==== Proof.KerVal.lean ====
/-
  The kernel's two results, entry by entry, where the probabilities are real numbers.
-/
module

public import proofs.«01_k».proof.Proof.Route
public import proofs.«01_k».proof.Proof.KerArr

@[expose] public section

set_option maxRecDepth 16384

noncomputable section

namespace Cert.Proof.Ker

open Idealize.ShloMosaic Cert.KernelIdeal Cert.KernelIdeal.Gen

/-- A natural number with a fraction, cut to an integer word. -/
theorem cut (n : ℕ) (hn : n < 2 ^ 31) (f : ℝ) (h0 : 0 ≤ f) (h1 : f < 1) :
    FloatOps.fptosi (F := Ideal) (φ := .f32) 32 ((((n : ℝ) + f : ℝ) : EReal) : Ideal .f32) = BitVec.ofNat 32 n := by
  show Ideal.fptosi 32 (((n : ℝ) + f : ℝ) : EReal) = _
  unfold Ideal.fptosi
  have hfl : ⌊(n : ℝ) + f⌋ = (n : ℤ) := by
    rw [Int.floor_eq_iff]
    constructor
    · push_cast; linarith
    · push_cast; linarith
  rw [Ideal.toIntClamped_coe, if_pos (by positivity), hfl]
  have : max (-(2 ^ (32 - 1) : ℕ) : ℤ) (min (((2 ^ (32 - 1) : ℕ) : ℤ) - 1) (n : ℤ)) = (n : ℤ) := by
    norm_num; omega
  rw [this]
  exact BitVec.ofInt_natCast 32 n

/-- The pattern of 64. -/
theorem sixty_four : Ideal.ofBits .f32 0x42800000#32 = ((64 : ℝ) : EReal) := by
  simp [Ideal.ofBits, Ideal.ieee]
  rw [← EReal.coe_mul]; norm_num

/-- The pattern of one half. -/
theorem half : Ideal.ofBits .f32 0x3F000000#32 = ((1 / 2 : ℝ) : EReal) := by
  simp [Ideal.ofBits, Ideal.ieee]
  rw [← EReal.coe_mul]; norm_num

/-- The expanding kernel's word of a slot packed as quotient and remainder. -/
theorem blockWord_slot (s : ℕ) (h : s ≤ 2048) :
    blockWord (((s / 64 : ℕ) : ℝ) : EReal) (((s % 64 : ℕ) : ℝ) : EReal) = BitVec.ofNat 32 s := by
  unfold blockWord
  rw [sixty_four, half, ← EReal.coe_mul, ← EReal.coe_add, ← EReal.coe_add, ← cut s (by omega) (1 / 2) (by norm_num) (by norm_num)]
  congr 4
  have : s = (s / 64) * 64 + s % 64 := by omega
  conv_rhs => rw [this]
  push_cast; ring

/-- The host's word of a slot packed as quotient and remainder. -/
theorem hostWord_slot (s : ℕ) (h : s ≤ 2048) (a b : EReal) (ha : a = (((s / 64 : ℕ) : ℝ) : EReal))
    (hb : b = (((s % 64 : ℕ) : ℝ) : EReal)) :
    FloatOps.fptosi (F := Ideal) (φ := .f32) 32 ((a * Ideal.ofBits .f32 0x42800000#32 + b : EReal) : Ideal .f32) = BitVec.ofNat 32 s := by
  rw [ha, hb, sixty_four, ← EReal.coe_mul, ← EReal.coe_add, ← cut s (by omega) 0 (by norm_num) (by norm_num)]
  congr 2
  have : s = (s / 64) * 64 + s % 64 := by omega
  conv_rhs => rw [this]
  push_cast; ring

variable (x : Vec Ideal S4096x8 .f32)

/-- The host's word of a token and expert is the slot's. -/
theorem word_slot (t : Fin 4096) (e : Fin 8) : word (out0_1 x) (ix2 t e) = BitVec.ofNat 32 (slot (prob x) t e) := by
  have hs := slot_le (prob x) t e
  have ha := out_quot x t e (by omega)
  have hb := out_rem x t e (by omega)
  simp only [Nat.mul_zero, Nat.zero_add, Nat.mul_one] at ha hb
  unfold word
  pointwise
  exact hostWord_slot _ hs _ _ ha hb

/-- The host's weight of a token and expert is the probability. -/
theorem total_prob (t : Fin 4096) (e : Fin 8) (r : ℝ) (hr : prob x t e = (r : EReal)) :
    (total (out0_1 x) (ix2 t e) : EReal) = prob x t e := by
  have h2 := out_prob x t e (by omega)
  have h3 := out_lost x t e r hr (by omega)
  have h4 := out_lost2 x t e r hr (by omega)
  unfold total
  pointwise
  exact (congrArg₂ (· + ·) (congrArg₂ (· + ·) h2 h3) h4).trans (by simp)

/-- The expanded rows, entry by entry. -/
theorem wide_entry (t : Fin 4096) (e : Fin 8) (c : Fin 1024) (r : ℝ) (hr : prob x t e = (r : EReal)) (h) :
    (wide (out0_1 x) (ix2 ⟨8 * t.val + e.val, h⟩ c) : EReal) = entry (prob x) t e c := by
  unfold wide
  have h1 : (8 * t.val + e.val) / 8 = t.val := by omega
  have h2 : (8 * t.val + e.val) % 8 = e.val := by omega
  simp only [ix2_0, ix2_1, h1, h2]
  have hs := slot_le (prob x) t e
  rw [out_quot, out_rem, out_prob, out_lost x t e r hr, out_lost2 x t e r hr, add_zero, add_zero, blockWord_slot _ hs]
  unfold entry
  refine if_congr ?_ rfl rfl
  rw [word_eq_iff (lt_trans c.isLt (by norm_num)) (by omega)]
  exact eq_comm

/-- The first result, entry by entry. -/
theorem combine_entry (t : Fin 4096) (e : Fin 8) (c : Fin 1024) (r : ℝ) (hr : prob x t e = (r : EReal)) :
    (shapeCast S4096x8x1024 (wide (out0_1 x)) shapeCasts_S32768x1024_S4096x8x1024 (ix3 t e c) : EReal) = entry (prob x) t e c := by
  have h := wide_entry x t e c r hr (by omega)
  pointwise
  rw [← h]
  congr 3
  omega

/-- The second result, entry by entry. -/
theorem mask_entry (t : Fin 4096) (e : Fin 8) (c : Fin 1024) (r : ℝ) (hr : prob x t e = (r : EReal)) :
    mask (out0_1 x) (ix3 t e c) = bit (prob x) t e c := by
  unfold mask taken
  pointwise
  rw [word_slot]
  have hs := slot_le (prob x) t e
  have ht := total_prob x t e r hr
  unfold bit entry
  by_cases h0 : prob x t e = 0
  · rw [if_neg (show ¬ (total (out0_1 x) (ix2 t e) ≠ 0) from fun h => h (ht.trans h0)), bit_eq,
      if_neg (show ¬ ((if slot (prob x) t e = c.val then prob x t e else 0) ≠ 0) from fun h => h (by rw [h0]; split <;> rfl))]
    refine if_neg fun h => ?_
    have := congrArg BitVec.toNat (show (4294967295#32) = BitVec.ofNat 32 c.val from h)
    simp at this
    omega
  · rw [if_pos (show total (out0_1 x) (ix2 t e) ≠ 0 from fun h => h0 (ht.symm.trans h)), bit_nat (by omega) (by omega)]
    refine if_congr ?_ rfl rfl
    by_cases h : slot (prob x) t e = c.val
    · rw [if_pos h]; exact ⟨fun _ => h0, fun _ => h⟩
    · rw [if_neg h]; exact ⟨fun k => absurd k h, fun k => absurd rfl k⟩

end Cert.Proof.Ker

end
-- ==== Proof.RefRoute.lean ====
/-
  The reference's two results, entry by entry, where the probabilities are real numbers.
-/
module

public import proofs.«01_k».proof.Proof.Route

@[expose] public section

set_option maxRecDepth 16384

noncomputable section

namespace Cert.Proof.Ref

open Idealize.ShloMosaic Cert.ReferenceIdeal Cert.ReferenceIdeal.Gen

/-- A fold of word sums is the word of the numbers' sum. -/
theorem fold_add {n : ℕ} (f : Fin n → BitVec 32) (S : Finset (Fin n)) :
    Finset.fold IntOp.addi 0#32 f S = BitVec.ofNat 32 (∑ i ∈ S, (f i).toNat) := by
  induction S using Finset.cons_induction with
  | empty => rfl
  | cons a S ha ih =>
    rw [Finset.fold_cons, Finset.sum_cons, ih, ← word_add, BitVec.ofNat_toNat, BitVec.setWidth_eq]

/-- A table's column total is the word of the column's sum. -/
theorem fold_column {n : ℕ} (k : IVec ⟨2, ![n, 8]⟩ 32) (e : Fin 8) :
    Finset.fold IntOp.addi 0#32 (fun s : Fin n => k (ix2 s e)) Finset.univ = BitVec.ofNat 32 (run (column k e) n) := by
  rw [fold_add]
  unfold run
  rw [Finset.sum_range]
  congr 1
  refine Finset.sum_congr rfl fun i _ => ?_
  unfold column
  rw [dif_pos i.isLt]

/-- A fold of word sums with one term that may be nonzero is that term. -/
theorem fold_single (f : Fin 8 → BitVec 32) (e : Fin 8) (h : ∀ j, j ≠ e → f j = 0#32) :
    Finset.fold IntOp.addi 0#32 f Finset.univ = f e := by
  rw [fold_add, Finset.sum_eq_single e (fun j _ hj => by rw [h j hj]; rfl) (fun h => absurd (Finset.mem_univ e) h),
    BitVec.ofNat_toNat, BitVec.setWidth_eq]

variable (x : FVec Ideal S4096x8 .f32)

/-- The reference's probabilities are the block's. -/
theorem probs_eq (t : Fin 4096) (e : Fin 8) : (probs x (ix2 t e) : EReal) = Ker.prob x t e := by
  unfold Ker.prob Cert.KernelIdeal.Gen.k0_pay1 probs expo rowMax
  pointwise
  rw [neg_inf]
  simp only [bot_le, max_eq_right]

/-- The mask of first choices. -/
theorem first_eq (t : Fin 4096) (e : Fin 8) : first x (ix2 t e) = if One (Ker.prob x) t e then 1#32 else 0#32 := by
  unfold first
  rw [hot_top]
  have h : (fun j => (probs x (ix2 t j) : EReal)) = Ker.prob x t := funext fun j => probs_eq x t j
  exact if_congr (by rw [h]; rfl) rfl rfl

/-- The mask of second choices. -/
theorem second_eq (t : Fin 4096) (e : Fin 8) : second x (ix2 t e) = if Two (Ker.prob x) t e then 1#32 else 0#32 := by
  unfold second
  rw [hot_top]
  have h : (fun j => (without (first x) (probs x) (ix2 t j) : EReal)) = rest (Ker.prob x t) := funext fun j => by
    unfold without
    pointwise
    simp only [id_eq]
    pointwise
    rw [first_eq, probs_eq]
    unfold rest
    by_cases h : IsTop (Ker.prob x t) j
    · rw [if_pos h, if_pos (show One (Ker.prob x) t j from h)]
      exact neg_inf
    · rw [if_neg h, if_neg (show ¬ One (Ker.prob x) t j from h)]
      rfl
  exact if_congr (by rw [h]; rfl) rfl rfl

/-- The places of the first choices. -/
theorem place_first (t : Fin 4096) (e : Fin 8) :
    place (first x) (ix2 t e) = IntOp.subi (BitVec.ofNat 32 (count (One (Ker.prob x)) t e)) 1#32 := by
  unfold place
  pointwise
  rw [running_eq, column_tally _ _ (One (Ker.prob x)) e fun s => ?_]
  · rfl
  · rw [first_eq]
    exact ⟨fun h => if_pos h, fun h => if_neg h⟩

/-- The places of the second choices. -/
theorem place_second (t : Fin 4096) (e : Fin 8) :
    placeAfter (first x) (second x) (ix2 t e)
      = IntOp.addi (IntOp.subi (BitVec.ofNat 32 (count (Two (Ker.prob x)) t e)) 1#32)
        (BitVec.ofNat 32 (countAll (One (Ker.prob x)) e)) := by
  unfold placeAfter place
  pointwise
  rw [fold_column, running_eq, column_tally _ _ (Two (Ker.prob x)) e fun s => ?_,
    column_tally _ _ (One (Ker.prob x)) e fun s => ?_]
  · rfl
  · rw [first_eq]
    exact ⟨fun h => if_pos h, fun h => if_neg h⟩
  · rw [second_eq]
    exact ⟨fun h => if_pos h, fun h => if_neg h⟩

/-- The first choices with room. -/
theorem fits_first (t : Fin 4096) (e : Fin 8) :
    fits (first x) (place (first x)) (ix2 t e) = if Keep1 (Ker.prob x) t e then 1#32 else 0#32 := by
  unfold fits
  pointwise
  rw [first_eq, place_first]
  by_cases h : One (Ker.prob x) t e
  · rw [word_rank1 _ t e h, bit_room _ (by have := rank1_lt (Ker.prob x) t e; omega), if_pos h]
    by_cases c : rank1 (Ker.prob x) t e < 1024
    · rw [if_pos c, if_pos (show Keep1 _ t e from ⟨h, c⟩)]; rfl
    · rw [if_neg c, if_neg (show ¬ Keep1 _ t e from fun k => c k.2)]; rfl
  · rw [if_neg h, if_neg (show ¬ Keep1 _ t e from fun k => h k.1)]
    exact BitVec.zero_mul

/-- The second choices with room. -/
theorem fits_second (t : Fin 4096) (e : Fin 8) :
    fits (second x) (placeAfter (first x) (second x)) (ix2 t e) = if Keep2 (Ker.prob x) t e then 1#32 else 0#32 := by
  unfold fits
  pointwise
  rw [second_eq, place_second]
  by_cases h : Two (Ker.prob x) t e
  · rw [word_rank2 _ t e h, bit_room _ (by have := rank2_lt (Ker.prob x) t e; omega), if_pos h]
    by_cases c : rank2 (Ker.prob x) t e < 1024
    · rw [if_pos c, if_pos (show Keep2 _ t e from ⟨h, c⟩)]; rfl
    · rw [if_neg c, if_neg (show ¬ Keep2 _ t e from fun k => c k.2)]; rfl
  · rw [if_neg h, if_neg (show ¬ Keep2 _ t e from fun k => h k.1)]
    exact BitVec.zero_mul

/-- One part of the combine weights, entry by entry: a mask that keeps at most one expert of a token puts the probability
    at the place it names. -/
theorem part_entry (k l : IVec S4096x8 32) (t : Fin 4096) (K : Fin 8 → Prop) [DecidablePred K] (n : Fin 8 → ℕ)
    (hK : ∀ a b, K a → K b → a = b) (hf : ∀ e, fits k l (ix2 t e) = if K e then 1#32 else 0#32)
    (hn : ∀ e, K e → l (ix2 t e) = BitVec.ofNat 32 (n e) ∧ n e < 1024) (e : Fin 8) (c : Fin 1024) :
    (part x k l (ix3 t e c) : EReal) = if K e ∧ n e = c.val then Ker.prob x t e else 0 := by
  unfold part spread weight slotHot
  pointwise
  rw [hf, probs_eq]
  by_cases h : K e
  · have hr : rowPlace (fits k l) l (ix1 t) = BitVec.ofNat 32 (n e) := by
      unfold rowPlace
      pointwise
      rw [fold_single _ e fun j hj => ?_]
      · rw [hf, if_pos h, (hn e h).1]
        exact BitVec.one_mul _
      · rw [hf, if_neg fun hk => hj (hK _ _ hk h)]
        exact BitVec.zero_mul
    have h1 : (FloatOps.sitofp (F := Ideal) FTy.f32 1#32 : EReal) = 1 := by
      show (((1#32 : BitVec 32).toInt : ℝ) : EReal) = 1
      norm_num
    have h2 : (FloatOps.uitofp (F := Ideal) FTy.f32 1#1 : EReal) = 1 := by
      show (((1#1 : BitVec 1).toNat : ℝ) : EReal) = 1
      norm_num
    have h3 : (FloatOps.uitofp (F := Ideal) FTy.f32 0#1 : EReal) = 0 := by
      show (((0#1 : BitVec 1).toNat : ℝ) : EReal) = 0
      norm_num
    rw [hr, if_pos h, Ker.bit_nat (by have := (hn e h).2; omega) (lt_trans c.isLt (by norm_num))]
    by_cases hc : n e = c.val
    · rw [if_pos hc, if_pos ⟨h, hc⟩, h1, h2, one_mul, mul_one]
    · rw [if_neg hc, if_neg (fun k => hc k.2), h3, mul_zero]
  · have h0 : (FloatOps.sitofp (F := Ideal) FTy.f32 0#32 : EReal) = 0 := by
      show (((0#32 : BitVec 32).toInt : ℝ) : EReal) = 0
      norm_num
    rw [if_neg h, if_neg (fun k => h k.1), h0, zero_mul, zero_mul]

/-- The first result, entry by entry. -/
theorem combine_entry (hP : ∀ t e, ∃ r : ℝ, Ker.prob x t e = (r : EReal)) (t : Fin 4096) (e : Fin 8) (c : Fin 1024) :
    (combine x (ix3 t e c) : EReal) = entry (Ker.prob x) t e c := by
  have hb : ∀ t j, ⊥ < Ker.prob x t j := fun t j => by
    obtain ⟨r, hr⟩ := hP t j
    rw [hr]; exact EReal.bot_lt_coe r
  have h1 := part_entry x (first x) (place (first x)) t (Keep1 (Ker.prob x) t) (rank1 (Ker.prob x) t)
    (fun a b ha hb => ha.1.unique hb.1) (fits_first x t)
    (fun e h => ⟨(place_first x t e).trans (word_rank1 _ t e h.1), h.2⟩) e c
  have h2 := part_entry x (second x) (placeAfter (first x) (second x)) t (Keep2 (Ker.prob x) t) (rank2 (Ker.prob x) t)
    (fun a b ha hb => ha.1.unique hb.1) (fits_second x t)
    (fun e h => ⟨(place_second x t e).trans (word_rank2 _ t e h.1), h.2⟩) e c
  unfold combine
  pointwise
  refine (congrArg₂ (· + ·) h1 h2).trans ?_
  unfold entry slot
  by_cases k1 : Keep1 (Ker.prob x) t e
  · have k2 : ¬ Keep2 (Ker.prob x) t e := fun k2 => not_both _ hb t e k1.1 k2.1
    rw [if_pos k1, if_neg (c := Keep2 _ t e ∧ _) (fun k => k2 k.1), add_zero]
    exact if_congr ⟨fun h => h.2, fun h => ⟨k1, h⟩⟩ rfl rfl
  · rw [if_neg k1, if_neg (c := Keep1 _ t e ∧ _) (fun k => k1 k.1), zero_add]
    by_cases k2 : Keep2 (Ker.prob x) t e
    · rw [if_pos k2]
      exact if_congr ⟨fun h => h.2, fun h => ⟨k2, h⟩⟩ rfl rfl
    · rw [if_neg k2, if_neg (fun k => k2 k.1), if_neg (by omega)]

/-- The second result, entry by entry. -/
theorem mask_entry (hP : ∀ t e, ∃ r : ℝ, Ker.prob x t e = (r : EReal)) (t : Fin 4096) (e : Fin 8) (c : Fin 1024) :
    mask x (ix3 t e c) = bit (Ker.prob x) t e c := by
  have h := combine_entry x hP t e c
  show Ideal.cmp .une (combine x (ix3 t e c)) (Ideal.ofBits .f32 0x00000000#32) = _
  rw [h, Ideal.ofBits_zero_f32]
  unfold bit Ideal.cmp
  by_cases h0 : entry (Ker.prob x) t e c ≠ 0
  · rw [if_pos h0]; exact congrArg BitVec.ofBool (decide_eq_true h0)
  · rw [if_neg h0]; exact congrArg BitVec.ofBool (decide_eq_false h0)

end Cert.Proof.Ref

end
-- ==== Proof.RefRun.lean ====
/-
  The reference's run: its results are `combine` and `mask` of the logits.
-/
module

public import proofs.«01_k».proof.Defs
public import proofs.«01_k».proof.Proof.RefVal
public import Idealize.ShloMosaic.Lib.Claim
public import Idealize.ShloMosaic.Lib.Quiescent
public import Idealize.ShloMosaic.Lib.StableHlo.RunRead

@[expose] public section

noncomputable section

namespace Cert.Proof.Ref

open Idealize.ShloMosaic Idealize.ShloMosaic.StableHlo Idealize.SL.Sem Cert.ReferenceIdeal

set_option maxHeartbeats 4000000 in
set_option maxRecDepth 16384 in
/-- From any memory the reference terminates with its results at `combine` and `mask` of the logits, which it leaves
    unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v57) = combine (m ((c.tc : Thread nD τ).loc main_arg0))
      ∧ r.2.mem ((c.tc : Thread nD τ).loc main_v60) = mask (m ((c.tc : Thread nD τ).loc main_arg0))
      ∧ r.2.mem ((c.tc : Thread nD τ).loc main_arg0) = m ((c.tc : Thread nD τ).loc main_arg0)) := by
  refine θ_run_mono (StableHlo.run_hlo _ _ (by hlo_seq) (by decide) (by decide) (by simp)
      (by intro _ h; (repeat (cases h with | head => rfl | tail _ h => ?_)) <;> exact nomatch h) _ _) ?_
  intro r h c
  refine ⟨(h c main_v57).trans ?_, (h c main_v60).trans ?_, (h c main_arg0).trans ?_⟩
  · after_reads_simp
    simp -implicitDefEqProofs only [TRef.toBuf, TRef.ofBuf, cast_cast, cast_eq]
    unfold combine part spread weight slotHot rowPlace fits placeAfter place running second first without hot top probs
      expo rowMax
    with_reducible rfl
  · after_reads_simp
    simp -implicitDefEqProofs only [TRef.toBuf, TRef.ofBuf, cast_cast, cast_eq]
    unfold mask combine part spread weight slotHot rowPlace fits placeAfter place running second first without hot top probs
      expo rowMax
    with_reducible rfl
  · after_reads_simp

/-- From any memory the reference terminates, its argument array unchanged and every semaphore counter zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  θ_run_mono (run m g) fun r h => ⟨fun c => (h c).2.2, sem_eq_zero_of_no_sems (by decide) r.2⟩

end Cert.Proof.Ref

end
-- ==== Proof.Equal.lean ====
/-
  The value claim: under the precondition the kernel and the reference run and end with equal results.
-/
module

public import proofs.«01_k».proof.Defs
public import proofs.«01_k».proof.Proof.Finite
public import proofs.«01_k».proof.Proof.KerVal
public import proofs.«01_k».proof.Proof.RefRoute
public import proofs.«01_k».proof.Proof.RefRun

@[expose] public section

set_option maxRecDepth 16384

noncomputable section

namespace Cert.Proof

open Idealize.ShloMosaic Idealize.SL.Sem

/-- Where the probabilities are real numbers the kernel's first result is the reference's. -/
theorem combine_eq (x : FVec Ideal Cert.KernelIdeal.S4096x8 .f32) (hP : ∀ t e, ∃ r : ℝ, Ker.prob x t e = (r : EReal)) :
    shapeCast Cert.KernelIdeal.S4096x8x1024 (Ker.wide (Cert.KernelIdeal.Gen.out0_1 (F := Ideal) x))
      Cert.KernelIdeal.Gen.shapeCasts_S32768x1024_S4096x8x1024 = Ref.combine x := by
  funext y
  idx_vars y
  obtain ⟨r, hr⟩ := hP y0 y1
  exact (Ker.combine_entry x y0 y1 y2 r hr).trans (Ref.combine_entry x hP y0 y1 y2).symm

/-- Where the probabilities are real numbers the kernel's second result is the reference's. -/
theorem mask_eq (x : FVec Ideal Cert.KernelIdeal.S4096x8 .f32) (hP : ∀ t e, ∃ r : ℝ, Ker.prob x t e = (r : EReal)) :
    Ker.mask (Cert.KernelIdeal.Gen.out0_1 (F := Ideal) x) = Ref.mask x := by
  funext y
  idx_vars y
  obtain ⟨r, hr⟩ := hP y0 y1
  exact (Ker.mask_entry x y0 y1 y2 r hr).trans (Ref.mask_entry x hP y0 y1 y2).symm

/-- The kernel and the reference, run on equal logits whose rows have finite maxima, end with equal results. -/
theorem algebraic : Cert.algebraic_KernelIdeal_ReferenceIdeal_pre_rows_have_a_finite_maximum
    (hKernelIdeal := Cert.KernelIdeal.Gen.facts) (hReferenceIdeal := Cert.ReferenceIdeal.Gen.facts)
    (hPre_rows_have_a_finite_maximum := preFacts) := by
  intro m g m' g' hpre hagree
  refine ⟨fun c => Ref.combine (m ((c.tc : Thread Cert.KernelIdeal.nD Cert.KernelIdeal.τ).loc Cert.KernelIdeal.main_arg0)),
    fun c => Ref.mask (m ((c.tc : Thread Cert.KernelIdeal.nD Cert.KernelIdeal.τ).loc Cert.KernelIdeal.main_arg0)), ?_, ?_⟩
  · refine θ_run_mono (Ker.run m g) fun r h c => ?_
    have hP := prob_real _ (hpre c)
    refine ⟨(h c).1.trans ?_, (h c).2.1.trans ?_, (h c).2.2⟩
    · rw [Ker.at_combine, Ker.at_rows]
      exact combine_eq _ hP
    · rw [Ker.at_mask, Ker.at_table]
      exact mask_eq _ hP
  · refine θ_run_mono (Ref.run m' g') fun r h c => ?_
    exact ⟨(h c).1.trans (congrArg Ref.combine (hagree c)), (h c).2.1.trans (congrArg Ref.mask (hagree c)), (h c).2.2⟩

end Cert.Proof

end
-- ==== Proof.lean ====
/-
  The certificate: each claim of `Cert.Claim` from the run that proves it.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equal

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, fun m g _ => Ref.frame m g, fun m g _ => Ref.frame m g,
    trivial, algebraic⟩

end Cert.Proof

end
